-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v31_0)) (v1 : (c : Dev Cert.Kernel2Ideal.nD) → Buf (Elt Ideal) ((c.tc : Thread Cert.Kernel2Ideal.nD Cert.Kernel2Ideal.τ).loc Cert.Kernel2Ideal.main_v31_1)) (v2 : (c : Dev Cert.Kernel2Ideal.nD) → Buf (Elt Ideal) ((c.tc : Thread Cert.Kernel2Ideal.nD Cert.Kernel2Ideal.τ).loc Cert.Kernel2Ideal.main_v31_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v31_0) = v0 c
          ∧ r.2.mem ((c.tc : Thread Cert.Kernel2Ideal.nD Cert.Kernel2Ideal.τ).loc Cert.Kernel2Ideal.main_v31_1) = v1 c
          ∧ r.2.mem ((c.tc : Thread Cert.Kernel2Ideal.nD Cert.Kernel2Ideal.τ).loc Cert.Kernel2Ideal.main_v31_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v51) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S32x2048x2816 : Shape := ⟨3, ![32, 2048, 2816]⟩
abbrev S32x8 : Shape := ⟨2, ![32, 8]⟩
abbrev S1x8 : Shape := ⟨2, ![1, 8]⟩
abbrev S32x2048x640 : Shape := ⟨3, ![32, 2048, 640]⟩
abbrev S_ : Shape := ⟨0, ![]⟩

class Facts : Prop where
  slices_S32x2048x2816_S32x2048x640_0_0_2048 : S32x2048x2816.Slices ![0, 0, 2048] S32x2048x640
  bitsLt_bf16_f32 : FTy.bits .bf16 < FTy.bits .f32
  bcast_S_S32x2048x640 : S_.BroadcastsInDim S32x2048x640 (![] : Fin 0 → Fin S32x2048x640.rank)
  reducesTo_S32x2048x640_S_d0_1_2 : S32x2048x640.ReducesTo [0, 1, 2] S_
  h_S_ : 0 < S_.numel
  bcast_S_S32x8 : S_.BroadcastsInDim S32x8 (![] : Fin 0 → Fin S32x8.rank)
  reducesTo_S32x8_S_d0_1 : S32x8.ReducesTo [0, 1] S_
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S32x2048x2816 .bf16) (main_arg1 : FVec F S32x8 .f32) (main_arg2 : FVec F S1x8 .f32) : IVec S_ 1 :=
  let main_v0 : FVec F S32x2048x640 .bf16 := (extractStridedSlice S32x2048x640 ![0, 0, 2048] · slices_S32x2048x2816_S32x2048x640_0_0_2048) main_arg0
  let main_v1 : FVec F S32x2048x640 .f32 := (extf .f32 · bitsLt_bf16_f32) main_v0
  let main_v2 : FVec F S32x2048x640 .f32 := Host.absf main_v1
  let main_cst : FVec F S_ .f32 := constant S_ .f32 0x7F800000#32
  let main_v3 : FVec F S32x2048x640 .f32 := broadcastInDim S32x2048x640 ![] bcast_S_S32x2048x640 main_cst
  let main_v4 : IVec S32x2048x640 1 := cmpf .olt main_v2 main_v3
  let main_c : IVec S_ 1 := constantI S_ 1 1#1
  let main_v5 : IVec S_ 1 := (fun x v => Host.reduce IntOp.andi x v reducesTo_S32x2048x640_S_d0_1_2 h_S_) main_v4 main_c
  let main_v6 : FVec F S32x8 .f32 := Host.absf main_arg1
  let main_cst_0 : FVec F S_ .f32 := constant S_ .f32 0x7F800000#32
  let main_v7 : FVec F S32x8 .f32 := broadcastInDim S32x8 ![] bcast_S_S32x8 main_cst_0
  let main_v8 : IVec S32x8 1 := cmpf .olt main_v6 main_v7
  let main_c_1 : IVec S_ 1 := constantI S_ 1 1#1
  let main_v9 : IVec S_ 1 := (fun x v => Host.reduce IntOp.andi x v reducesTo_S32x8_S_d0_1 h_S_) main_v8 main_c_1
  let main_v10 : IVec S_ 1 := andi main_v5 main_v9
  let main_v11 : FVec F S1x8 .f32 := Host.absf main_arg2
  let main_cst_2 : FVec F S_ .f32 := constant S_ .f32 0x7F800000#32
  let main_v12 : FVec F S1x8 .f32 := broadcastInDim S1x8 ![] bcast_S_S1x8 main_cst_2
  let main_v13 : IVec S1x8 1 := cmpf .olt main_v11 main_v12
  let main_c_3 : IVec S_ 1 := constantI S_ 1 1#1
  let main_v14 : IVec S_ 1 := (fun x v => Host.reduce IntOp.andi x v reducesTo_S1x8_S_d0_1 h_S_) main_v13 main_c_3
  let main_v15 : IVec S_ 1 := andi main_v10 main_v14
  main_v15
-- ==== Kernel.lean ====
abbrev S32x2048x2816 : Shape := ⟨3, ![32, 2048, 2816]⟩
abbrev S32x8 : Shape := ⟨2, ![32, 8]⟩
abbrev S1x8 : Shape := ⟨2, ![1, 8]⟩
abbrev S128x384 : Shape := ⟨2, ![128, 384]⟩
abbrev S_ : Shape := ⟨0, ![]⟩
abbrev S128x384x1 : Shape := ⟨3, ![128, 384, 1]⟩
abbrev S128x384x8 : Shape := ⟨3, ![128, 384, 8]⟩
abbrev S8x128x384 : Shape := ⟨3, ![8, 128, 384]⟩
abbrev S8 : Shape := ⟨1, ![8]⟩
abbrev S32x2048x512 : Shape := ⟨3, ![32, 2048, 512]⟩
abbrev S1x128x512 : Shape := ⟨3, ![1, 128, 512]⟩
abbrev S1x128x128 : Shape := ⟨3, ![1, 128, 128]⟩
abbrev S128x128 : Shape := ⟨2, ![128, 128]⟩
abbrev S384x128 : Shape := ⟨2, ![384, 128]⟩
abbrev S128x512 : Shape := ⟨2, ![128, 512]⟩
abbrev S128x64 : Shape := ⟨2, ![128, 64]⟩
abbrev S384x64 : Shape := ⟨2, ![384, 64]⟩
abbrev S1x128x384 : Shape := ⟨3, ![1, 128, 384]⟩
abbrev S1 : Shape := ⟨1, ![1]⟩
abbrev S128 : Shape := ⟨1, ![128]⟩
abbrev S128x1 : Shape := ⟨2, ![128, 1]⟩

abbrev nBuf : Space → Nat
  | .hbm => 14
  | .vmem => 17
  | .smem => 1
  | _ => 0

abbrev bufTy : (tb : Table) → Fin (tcTables nBuf tb) → BufTy
  | .hbm, ⟨0, _⟩ => ⟨S32x2048x2816, .bf16⟩
  | .hbm, ⟨1, _⟩ => ⟨S32x8, .f32⟩
  | .hbm, ⟨2, _⟩ => ⟨S1x8, .f32⟩
  | .hbm, ⟨3, _⟩ => ⟨S128x384, .i32⟩
  | .hbm, ⟨4, _⟩ => ⟨S128x384, .i1⟩
  | .hbm, ⟨5, _⟩ => ⟨S_, .i32⟩
  | .hbm, ⟨6, _⟩ => ⟨S128x384, .i32⟩
  | .hbm, ⟨7, _⟩ => ⟨S128x384, .i32⟩
  | .hbm, ⟨8, _⟩ => ⟨S128x384, .i32⟩
  | .hbm, ⟨9, _⟩ => ⟨S128x384x1, .i32⟩
  | .hbm, ⟨10, _⟩ => ⟨S128x384x8, .f32⟩
  | .hbm, ⟨11, _⟩ => ⟨S8x128x384, .f32⟩
  | .hbm, ⟨12, _⟩ => ⟨S8, .f32⟩
  | .hbm, ⟨13, _⟩ => ⟨S32x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .bf16⟩
  | .local _ .vmem, ⟨7, _⟩ => ⟨S1x128x128, .bf16⟩
  | .local _ .vmem, ⟨8, _⟩ => ⟨S1x128x128, .bf16⟩
  | .local _ .vmem, ⟨9, _⟩ => ⟨S1x128x128, .bf16⟩
  | .local _ .vmem, ⟨10, _⟩ => ⟨S1x128x128, .bf16⟩
  | .local _ .vmem, ⟨11, _⟩ => ⟨S1x128x128, .bf16⟩
  | .local _ .vmem, ⟨12, _⟩ => ⟨S1x128x128, .bf16⟩
  | .local _ .vmem, ⟨13, _⟩ => ⟨S1x128x128, .bf16⟩
  | .local _ .vmem, ⟨14, _⟩ => ⟨S8x128x384, .f32⟩
  | .local _ .vmem, ⟨15, _⟩ => ⟨S1x128x512, .bf16⟩
  | .local _ .vmem, ⟨16, _⟩ => ⟨S1x128x512, .bf16⟩
  | .local _ .smem, ⟨0, _⟩ => ⟨S8, .f32⟩
  | _, _ => ⟨S32x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c20_i32 : BitVec 32 := 20#32
  let c0_i32_0 : BitVec 32 := 0#32
  ![arg0.toNat, v1.toNat, c20_i32.toNat]

def cc0_transform_3 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c20_i32 : BitVec 32 := 20#32
  let c0_i32 : BitVec 32 := 0#32
  ![arg0.toNat, v1.toNat, c20_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c21_i32 : BitVec 32 := 21#32
  let c0_i32_0 : BitVec 32 := 0#32
  ![arg0.toNat, v1.toNat, c21_i32.toNat]

def cc0_transform_6 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c21_i32 : BitVec 32 := 21#32
  let c0_i32 : BitVec 32 := 0#32
  ![arg0.toNat, v1.toNat, c21_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x2816 : Shape := ⟨3, ![32, 2048, 2816]⟩
abbrev S32x8 : Shape := ⟨2, ![32, 8]⟩
abbrev S1x8 : Shape := ⟨2, ![1, 8]⟩
abbrev S32x2048x512 : Shape := ⟨3, ![32, 2048, 512]⟩
abbrev S32x2048x128 : Shape := ⟨3, ![32, 2048, 128]⟩
abbrev S32x16x128x8x64 : Shape := ⟨5, ![32, 16, 128, 8, 64]⟩
abbrev S32x2048x2x64 : Shape := ⟨4, ![32, 2048, 2, 64]⟩
abbrev S32x2048x2x4x64 : Shape := ⟨5, ![32, 2048, 2, 4, 64]⟩
abbrev S32x2048x8x64 : Shape := ⟨4, ![32, 2048, 8, 64]⟩
abbrev S_ : Shape := ⟨0, ![]⟩
abbrev S32x2304x8x64 : Shape := ⟨4, ![32, 2304, 8, 64]⟩
abbrev S32x18x128x8x64 : Shape := ⟨5, ![32, 18, 128, 8, 64]⟩
abbrev S32x16x384x8x64 : Shape := ⟨5, ![32, 16, 384, 8, 64]⟩
abbrev S32x16x8x128x384 : Shape := ⟨5, ![32, 16, 8, 128, 384]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S128x384x1 : Shape := ⟨3, ![128, 384, 1]⟩
abbrev S128x384x8 : Shape := ⟨3, ![128, 384, 8]⟩
abbrev S8x128x384 : Shape := ⟨3, ![8, 128, 384]⟩
abbrev S1x16x1x128x384 : Shape := ⟨5, ![1, 16, 1, 128, 384]⟩
abbrev S1x1x8x128x384 : Shape := ⟨5, ![1, 1, 8, 128, 384]⟩
abbrev S8 : Shape := ⟨1, ![8]⟩
abbrev S1x1x8x1x1 : Shape := ⟨5, ![1, 1, 8, 1, 1]⟩
abbrev S32x16x8x128 : Shape := ⟨4, ![32, 16, 8, 128]⟩
abbrev S32x16x8x128x1 : Shape := ⟨5, ![32, 16, 8, 128, 1]⟩
abbrev S32x16x8x64x128 : Shape := ⟨5, ![32, 16, 8, 64, 128]⟩

abbrev nBuf : Space → Nat
  | .hbm => 163
  | .vmem => 0
  | .smem => 0
  | _ => 0

abbrev hbmTy0_0 (i : Nat) : BufTy := match i % 128 with
  | 0 => ⟨S32x2048x2816, .bf16⟩
  | 1 => ⟨S32x8, .f32⟩
  | 2 => ⟨S1x8, .f32⟩
  | 3 => ⟨S32x2048x2816, .f32⟩
  | 4 => ⟨S32x2048x512, .f32⟩
  | 5 => ⟨S32x2048x128, .f32⟩
  | 6 => ⟨S32x2048x128, .f32⟩
  | 7 => ⟨S32x16x128x8x64, .f32⟩
  | 8 => ⟨S32x2048x2x64, .f32⟩
  | 9 => ⟨S32x2048x2x4x64, .f32⟩
  | 10 => ⟨S32x2048x8x64, .f32⟩
  | 11 => ⟨S_, .i32⟩
  | 12 => ⟨S_, .f32⟩
  | 13 => ⟨S32x2304x8x64, .f32⟩
  | 14 => ⟨S32x18x128x8x64, .f32⟩
  | 15 => ⟨S32x2048x2x64, .f32⟩
  | 16 => ⟨S32x2048x2x4x64, .f32⟩
  | 17 => ⟨S32x2048x8x64, .f32⟩
  | 18 => ⟨S_, .i32⟩
  | 19 => ⟨S_, .f32⟩
  | 20 => ⟨S32x2304x8x64, .f32⟩
  | 21 => ⟨S32x18x128x8x64, .f32⟩
  | 22 => ⟨S32x16x128x8x64, .f32⟩
  | 23 => ⟨S32x16x128x8x64, .f32⟩
  | 24 => ⟨S32x16x128x8x64, .f32⟩
  | 25 => ⟨S32x16x384x8x64, .f32⟩
  | 26 => ⟨S32x16x128x8x64, .f32⟩
  | 27 => ⟨S32x16x128x8x64, .f32⟩
  | 28 => ⟨S32x16x128x8x64, .f32⟩
  | 29 => ⟨S32x16x384x8x64, .f32⟩
  | 30 => ⟨S32x16x8x128x384, .f32⟩
  | 31 => ⟨S_, .f32⟩
  | 32 => ⟨S32x16x8x128x384, .f32⟩
  | 33 => ⟨S32x16x8x128x384, .f32⟩
  | 34 => ⟨S384, .i32⟩
  | 35 => ⟨S1x384, .i32⟩
  | 36 => ⟨S_, .i32⟩
  | 37 => ⟨S1x384, .i32⟩
  | 38 => ⟨S1x384, .i32⟩
  | 39 => ⟨S128, .i32⟩
  | 40 => ⟨S128x1, .i32⟩
  | 41 => ⟨S128x384, .i32⟩
  | 42 => ⟨S128x384, .i32⟩
  | 43 => ⟨S128x384, .i32⟩
  | 44 => ⟨S16, .i32⟩
  | 45 => ⟨S16x1x1, .i32⟩
  | 46 => ⟨S_, .i32⟩
  | 47 => ⟨S16x1x1, .i32⟩
  | 48 => ⟨S16x1x1, .i32⟩
  | 49 => ⟨S_, .i32⟩
  | 50 => ⟨S16x1x1, .i32⟩
  | 51 => ⟨S16x1x1, .i32⟩
  | 52 => ⟨S1x1x384, .i32⟩
  | 53 => ⟨S16x1x384, .i32⟩
  | 54 => ⟨S16x1x384, .i32⟩
  | 55 => ⟨S16x1x384, .i32⟩
  | 56 => ⟨S128x384, .i32⟩
  | 57 => ⟨S_, .i32⟩
  | 58 => ⟨S128x384, .i32⟩
  | 59 => ⟨S128x384, .i1⟩
  | 60 => ⟨S1x128x384, .i1⟩
  | 61 => ⟨S_, .i32⟩
  | 62 => ⟨S16x1x384, .i32⟩
  | 63 => ⟨S16x1x384, .i1⟩
  | 64 => ⟨S16x128x384, .i1⟩
  | 65 => ⟨S16x128x384, .i1⟩
  | 66 => ⟨S16x128x384, .i1⟩
  | 67 => ⟨S_, .i32⟩
  | 68 => ⟨S16x1x384, .i32⟩
  | 69 => ⟨S16x1x384, .i1⟩
  | 70 => ⟨S16x128x384, .i1⟩
  | 71 => ⟨S16x128x384, .i1⟩
  | 72 => ⟨S128x384, .i32⟩
  | 73 => ⟨S_, .i32⟩
  | 74 => ⟨S128x384, .i32⟩
  | 75 => ⟨S_, .i32⟩
  | 76 => ⟨S128x384, .i32⟩
  | 77 => ⟨S128x384, .i1⟩
  | 78 => ⟨S128x384, .i32⟩
  | 79 => ⟨S128x384, .i32⟩
  | 80 => ⟨S_, .i32⟩
  | 81 => ⟨S128x384, .i32⟩
  | 82 => ⟨S128x384, .i1⟩
  | 83 => ⟨S128x384, .i32⟩
  | 84 => ⟨S128x384, .i32⟩
  | 85 => ⟨S_, .i32⟩
  | 86 => ⟨S128x384, .i32⟩
  | 87 => ⟨S128x384, .i1⟩
  | 88 => ⟨S128x384, .i32⟩
  | 89 => ⟨S128x384, .i32⟩
  | 90 => ⟨S_, .i32⟩
  | 91 => ⟨S128x384, .i32⟩
  | 92 => ⟨S128x384, .i1⟩
  | 93 => ⟨S128x384, .i32⟩
  | 94 => ⟨S128x384, .i32⟩
  | 95 => ⟨S_, .i32⟩
  | 96 => ⟨S128x384, .i32⟩
  | 97 => ⟨S128x384, .i1⟩
  | 98 => ⟨S128x384, .i32⟩
  | 99 => ⟨S128x384, .i32⟩
  | 100 => ⟨S_, .i32⟩
  | 101 => ⟨S128x384, .i32⟩
  | 102 => ⟨S128x384, .i1⟩
  | 103 => ⟨S128x384, .i32⟩
  | 104 => ⟨S128x384, .i32⟩
  | 105 => ⟨S_, .i32⟩
  | 106 => ⟨S128x384, .i32⟩
  | 107 => ⟨S128x384, .i1⟩
  | 108 => ⟨S128x384, .i32⟩
  | 109 => ⟨S128x384, .i32⟩
  | 110 => ⟨S_, .i32⟩
  | 111 => ⟨S128x384, .i32⟩
  | 112 => ⟨S128x384, .i1⟩
  | 113 => ⟨S128x384, .i32⟩
  | 114 => ⟨S_, .i32⟩
  | 115 => ⟨S128x384, .i32⟩
  | 116 => ⟨S128x384, .i32⟩
  | 117 => ⟨S_, .i32⟩
  | 118 => ⟨S128x384, .i32⟩
  | 119 => ⟨S128x384, .i1⟩
  | 120 => ⟨S128x384, .i32⟩
  | 121 => ⟨S128x384, .i32⟩
  | 122 => ⟨S_, .i32⟩
  | 123 => ⟨S128x384, .i32⟩
  | 124 => ⟨S128x384, .i1⟩
  | 125 => ⟨S_, .i32⟩
  | 126 => ⟨S128x384, .i32⟩
  | 127 => ⟨S128x384, .i32⟩
  | _ => ⟨S32x2048x2816, .bf16⟩

abbrev hbmTy0_1 (i : Nat) : BufTy := match i % 128 with
  | 0 => ⟨S128x384, .i32⟩
  | 1 => ⟨S128x384x1, .i32⟩
  | 2 => ⟨S128x384x8, .f32⟩
  | 3 => ⟨S8x128x384, .f32⟩
  | 4 => ⟨S1x16x1x128x384, .i1⟩
  | 5 => ⟨S32x16x8x128x384, .i1⟩
  | 6 => ⟨S1x1x8x128x384, .f32⟩
  | 7 => ⟨S32x16x8x128x384, .f32⟩
  | 8 => ⟨S32x16x8x128x384, .f32⟩
  | 9 => ⟨S_, .f32⟩
  | 10 => ⟨S32x16x8x128x384, .f32⟩
  | 11 => ⟨S32x16x8x128x384, .f32⟩
  | 12 => ⟨S8, .f32⟩
  | 13 => ⟨S1x1x8x1x1, .f32⟩
  | 14 => ⟨S_, .f32⟩
  | 15 => ⟨S32x16x8x128, .f32⟩
  | 16 => ⟨S32x16x8x128x1, .f32⟩
  | 17 => ⟨S32x16x8x128x1, .f32⟩
  | 18 => ⟨S32x16x8x128x1, .f32⟩
  | 19 => ⟨S32x16x8x128x384, .f32⟩
  | 20 => ⟨S32x16x8x128x384, .f32⟩
  | 21 => ⟨S32x16x8x128x384, .f32⟩
  | 22 => ⟨S_, .f32⟩
  | 23 => ⟨S32x16x8x128, .f32⟩
  | 24 => ⟨S32x16x8x128x1, .f32⟩
  | 25 => ⟨S32x16x8x128x1, .f32⟩
  | 26 => ⟨S32x16x8x128x1, .f32⟩
  | 27 => ⟨S32x16x8x128x1, .f32⟩
  | 28 => ⟨S32x16x8x128x1, .f32⟩
  | 29 => ⟨S32x16x8x128x384, .f32⟩
  | 30 => ⟨S32x16x8x128x384, .f32⟩
  | 31 => ⟨S32x16x8x64x128, .f32⟩
  | 32 => ⟨S32x16x128x8x64, .f32⟩
  | 33 => ⟨S32x2048x512, .f32⟩
  | 34 => ⟨S32x2048x512, .bf16⟩
  | _ => ⟨S32x2048x2816, .bf16⟩

abbrev hbmTy (i : Nat) : BufTy := match i / 128 with
  | 0 => hbmTy0_0 i
  | 1 => hbmTy0_1 i
  | _ => ⟨S32x2048x2816, .bf16⟩

abbrev bufTy : (tb : Table) → Fin (tcTables nBuf tb) → BufTy
  | .hbm, ⟨i, _⟩ => hbmTy i
  | _, _ => ⟨S32x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_c_2 : Ref sig .tc := ⟨.hbm, 46, rfl⟩
abbrev main_v37 : Ref sig .tc := ⟨.hbm, 47, rfl⟩
abbrev main_v38 : Ref sig .tc := ⟨.hbm, 48, rfl⟩
abbrev main_c_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_4 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_6 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_c_10 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_11 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_c_12 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_13 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_c_14 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_c_15 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_c_16 : Ref sig .tc := ⟨.hbm, 114, rfl⟩
abbrev main_v91 : Ref sig .tc := ⟨.hbm, 115, rfl⟩
abbrev main_v92 : Ref sig .tc := ⟨.hbm, 116, rfl⟩
abbrev main_c_17 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_c_18 : Ref sig .tc := ⟨.hbm, 122, rfl⟩
abbrev main_v97 : Ref sig .tc := ⟨.hbm, 123, rfl⟩
abbrev main_v98 : Ref sig .tc := ⟨.hbm, 124, rfl⟩
abbrev main_c_19 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_cst_20 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_21 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_22 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩

abbrev nD : Nat := 1
abbrev τ : Topo := Topo.v7x

variable {F : FTy → Type} [FloatOps F]
-- ==== Kernel2.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2848 : Shape := ⟨3, ![1, 1024, 2848]⟩
abbrev S1x4x8 : Shape := ⟨3, ![1, 4, 8]⟩
abbrev S1024x2848 : Shape := ⟨2, ![1024, 2848]⟩
abbrev S1024x512 : Shape := ⟨2, ![1024, 512]⟩
abbrev S1024x128 : Shape := ⟨2, ![1024, 128]⟩
abbrev S1024x32 : Shape := ⟨2, ![1024, 32]⟩
abbrev S1024x2816 : Shape := ⟨2, ![1024, 2816]⟩
abbrev S_ : Shape := ⟨0, ![]⟩
abbrev S4x8 : Shape := ⟨2, ![4, 8]⟩
abbrev S1x32 : Shape := ⟨2, ![1, 32]⟩
abbrev S1x128 : Shape := ⟨2, ![1, 128]⟩
abbrev S1024 : Shape := ⟨1, ![1024]⟩
abbrev S1024x5632 : Shape := ⟨2, ![1024, 5632]⟩
abbrev S2816x1024 : Shape := ⟨2, ![2816, 1024]⟩
abbrev S65536x2816 : Shape := ⟨2, ![65536, 2816]⟩
abbrev S65536x128 : Shape := ⟨2, ![65536, 128]⟩
abbrev S256x1024 : Shape := ⟨2, ![256, 1024]⟩
abbrev S256x2816 : Shape := ⟨2, ![256, 2816]⟩
abbrev S256x128 : Shape := ⟨2, ![256, 128]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 45
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x2848, .f32⟩
  | .hbm, ⟨6, _⟩ => ⟨S1x4x8, .f32⟩
  | .hbm, ⟨7, _⟩ => ⟨S1024x2848, .f32⟩
  | .hbm, ⟨8, _⟩ => ⟨S1024x512, .f32⟩
  | .hbm, ⟨9, _⟩ => ⟨S1024x2848, .f32⟩
  | .hbm, ⟨10, _⟩ => ⟨S1024x128, .f32⟩
  | .hbm, ⟨11, _⟩ => ⟨S1024x2848, .f32⟩
  | .hbm, ⟨12, _⟩ => ⟨S1024x128, .f32⟩
  | .hbm, ⟨13, _⟩ => ⟨S1024x2848, .f32⟩
  | .hbm, ⟨14, _⟩ => ⟨S1024x512, .f32⟩
  | .hbm, ⟨15, _⟩ => ⟨S1024x2848, .f32⟩
  | .hbm, ⟨16, _⟩ => ⟨S1024x512, .f32⟩
  | .hbm, ⟨17, _⟩ => ⟨S1024x2848, .f32⟩
  | .hbm, ⟨18, _⟩ => ⟨S1024x512, .f32⟩
  | .hbm, ⟨19, _⟩ => ⟨S1024x2848, .f32⟩
  | .hbm, ⟨20, _⟩ => ⟨S1024x512, .f32⟩
  | .hbm, ⟨21, _⟩ => ⟨S1024x2848, .f32⟩
  | .hbm, ⟨22, _⟩ => ⟨S1024x32, .f32⟩
  | .hbm, ⟨23, _⟩ => ⟨S1024x2816, .f32⟩
  | .hbm, ⟨24, _⟩ => ⟨S1024x2816, .bf16⟩
  | .hbm, ⟨25, _⟩ => ⟨S_, .i32⟩
  | .hbm, ⟨26, _⟩ => ⟨S_, .f32⟩
  | .hbm, ⟨27, _⟩ => ⟨S1024x128, .f32⟩
  | .hbm, ⟨28, _⟩ => ⟨S1024x128, .bf16⟩
  | .hbm, ⟨29, _⟩ => ⟨S4x8, .f32⟩
  | .hbm, ⟨30, _⟩ => ⟨S1x32, .f32⟩
  | .hbm, ⟨31, _⟩ => ⟨S_, .i32⟩
  | .hbm, ⟨32, _⟩ => ⟨S_, .f32⟩
  | .hbm, ⟨33, _⟩ => ⟨S1x128, .f32⟩
  | .hbm, ⟨34, _⟩ => ⟨S1024, .f32⟩
  | .hbm, ⟨35, _⟩ => ⟨S1x1024, .f32⟩
  | .hbm, ⟨36, _⟩ => ⟨S1024x5632, .f32⟩
  | .hbm, ⟨37, _⟩ => ⟨S1024x5632, .bf16⟩
  | .hbm, ⟨38, _⟩ => ⟨S2816x1024, .f32⟩
  | .hbm, ⟨39, _⟩ => ⟨S2816x1024, .bf16⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x2816, .bf16⟩
  | .hbm, ⟨44, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x128, .bf16⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x2816, .bf16⟩
  | .local _ .vmem, ⟨12, _⟩ => ⟨S256x2816, .bf16⟩
  | .local _ .vmem, ⟨13, _⟩ => ⟨S256x128, .f32⟩
  | .local _ .vmem, ⟨14, _⟩ => ⟨S256x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_0 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x2848 : Shape := ⟨3, ![1, 1024, 2848]⟩
abbrev S1x4x8 : Shape := ⟨3, ![1, 4, 8]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S2816x1024 : Shape := ⟨2, ![2816, 1024]⟩
abbrev S65536x5632 : Shape := ⟨2, ![65536, 5632]⟩
abbrev S65536x2816 : Shape := ⟨2, ![65536, 2816]⟩
abbrev S1024x2848 : Shape := ⟨2, ![1024, 2848]⟩
abbrev S65536x2848 : Shape := ⟨2, ![65536, 2848]⟩
abbrev S65536x2048 : Shape := ⟨2, ![65536, 2048]⟩
abbrev S65536x768 : Shape := ⟨2, ![65536, 768]⟩
abbrev S65536x32 : Shape := ⟨2, ![65536, 32]⟩
abbrev S4x8 : Shape := ⟨2, ![4, 8]⟩
abbrev S1x32 : Shape := ⟨2, ![1, 32]⟩
abbrev S65536x96 : Shape := ⟨2, ![65536, 96]⟩
abbrev S65536x128 : Shape := ⟨2, ![65536, 128]⟩

abbrev nBuf : Space → Nat
  | .hbm => 75
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x2848, .f32⟩
  | .hbm, ⟨6, _⟩ => ⟨S1x4x8, .f32⟩
  | .hbm, ⟨7, _⟩ => ⟨S1024, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S1024x5632, .f32⟩
  | .hbm, ⟨25, _⟩ => ⟨S2816x1024, .f32⟩
  | .hbm, ⟨26, _⟩ => ⟨S65536x5632, .f32⟩
  | .hbm, ⟨27, _⟩ => ⟨S65536x2816, .f32⟩
  | .hbm, ⟨28, _⟩ => ⟨S65536x2816, .f32⟩
  | .hbm, ⟨29, _⟩ => ⟨S65536x2816, .f32⟩
  | .hbm, ⟨30, _⟩ => ⟨S65536x2816, .f32⟩
  | .hbm, ⟨31, _⟩ => ⟨S_, .f32⟩
  | .hbm, ⟨32, _⟩ => ⟨S65536x2816, .f32⟩
  | .hbm, ⟨33, _⟩ => ⟨S65536x2816, .f32⟩
  | .hbm, ⟨34, _⟩ => ⟨S_, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S65536x2816, .f32⟩
  | .hbm, ⟨39, _⟩ => ⟨S65536x1024, .f32⟩
  | .hbm, ⟨40, _⟩ => ⟨S_, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S1024, .f32⟩
  | .hbm, ⟨45, _⟩ => ⟨S65536x1024, .f32⟩
  | .hbm, ⟨46, _⟩ => ⟨S_, .f32⟩
  | .hbm, ⟨47, _⟩ => ⟨S65536, .f32⟩
  | .hbm, ⟨48, _⟩ => ⟨S65536x1, .f32⟩
  | .hbm, ⟨49, _⟩ => ⟨S_, .f32⟩
  | .hbm, ⟨50, _⟩ => ⟨S65536x1, .f32⟩
  | .hbm, ⟨51, _⟩ => ⟨S65536x1, .f32⟩
  | .hbm, ⟨52, _⟩ => ⟨S_, .f32⟩
  | .hbm, ⟨53, _⟩ => ⟨S65536x1, .f32⟩
  | .hbm, ⟨54, _⟩ => ⟨S65536x1, .f32⟩
  | .hbm, ⟨55, _⟩ => ⟨S65536x1, .f32⟩
  | .hbm, ⟨56, _⟩ => ⟨S65536x1024, .f32⟩
  | .hbm, ⟨57, _⟩ => ⟨S65536x1024, .f32⟩
  | .hbm, ⟨58, _⟩ => ⟨S1x1024, .f32⟩
  | .hbm, ⟨59, _⟩ => ⟨S65536x1024, .f32⟩
  | .hbm, ⟨60, _⟩ => ⟨S65536x1024, .f32⟩
  | .hbm, ⟨61, _⟩ => ⟨S1024x2848, .f32⟩
  | .hbm, ⟨62, _⟩ => ⟨S65536x2848, .f32⟩
  | .hbm, ⟨63, _⟩ => ⟨S65536x2048, .f32⟩
  | .hbm, ⟨64, _⟩ => ⟨S65536x768, .f32⟩
  | .hbm, ⟨65, _⟩ => ⟨S65536x2816, .f32⟩
  | .hbm, ⟨66, _⟩ => ⟨S65536x2816, .bf16⟩
  | .hbm, ⟨67, _⟩ => ⟨S65536x32, .f32⟩
  | .hbm, ⟨68, _⟩ => ⟨S4x8, .f32⟩
  | .hbm, ⟨69, _⟩ => ⟨S1x32, .f32⟩
  | .hbm, ⟨70, _⟩ => ⟨S65536x32, .f32⟩
  | .hbm, ⟨71, _⟩ => ⟨S65536x32, .f32⟩
  | .hbm, ⟨72, _⟩ => ⟨S_, .f32⟩
  | .hbm, ⟨73, _⟩ => ⟨S65536x96, .f32⟩
  | .hbm, ⟨74, _⟩ => ⟨S65536x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 18
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel3Ideal.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 18
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S65536x1024 : Shape := ⟨2, ![65536, 1024]⟩
abbrev S65536x512 : Shape := ⟨2, ![65536, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S2816x1024 : Shape := ⟨2, ![2816, 1024]⟩
abbrev S65536x5632 : Shape := ⟨2, ![65536, 5632]⟩
abbrev S65536x2816 : Shape := ⟨2, ![65536, 2816]⟩

abbrev nBuf : Space → Nat
  | .hbm => 67
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S65536x512, .f32⟩
  | .hbm, ⟨9, _⟩ => ⟨S65536x512, .f32⟩
  | .hbm, ⟨10, _⟩ => ⟨S65536x1024, .f32⟩
  | .hbm, ⟨11, _⟩ => ⟨S1024x1024, .f32⟩
  | .hbm, ⟨12, _⟩ => ⟨S65536x1024, .f32⟩
  | .hbm, ⟨13, _⟩ => ⟨S65536x1024, .f32⟩
  | .hbm, ⟨14, _⟩ => ⟨S1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1x1024, .f32⟩
  | .hbm, ⟨29, _⟩ => ⟨S65536x1024, .f32⟩
  | .hbm, ⟨30, _⟩ => ⟨S65536x1024, .f32⟩
  | .hbm, ⟨31, _⟩ => ⟨S1024x5632, .f32⟩
  | .hbm, ⟨32, _⟩ => ⟨S2816x1024, .f32⟩
  | .hbm, ⟨33, _⟩ => ⟨S65536x5632, .f32⟩
  | .hbm, ⟨34, _⟩ => ⟨S65536x2816, .f32⟩
  | .hbm, ⟨35, _⟩ => ⟨S65536x2816, .f32⟩
  | .hbm, ⟨36, _⟩ => ⟨S65536x2816, .f32⟩
  | .hbm, ⟨37, _⟩ => ⟨S65536x2816, .f32⟩
  | .hbm, ⟨38, _⟩ => ⟨S_, .f32⟩
  | .hbm, ⟨39, _⟩ => ⟨S65536x2816, .f32⟩
  | .hbm, ⟨40, _⟩ => ⟨S65536x2816, .f32⟩
  | .hbm, ⟨41, _⟩ => ⟨S_, .f32⟩
  | .hbm, ⟨42, _⟩ => ⟨S65536x2816, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S65536x1024, .f32⟩
  | .hbm, ⟨47, _⟩ => ⟨S_, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S_, .f32⟩
  | .hbm, ⟨59, _⟩ => ⟨S65536x1, .f32⟩
  | .hbm, ⟨60, _⟩ => ⟨S65536x1, .f32⟩
  | .hbm, ⟨61, _⟩ => ⟨S65536x1, .f32⟩
  | .hbm, ⟨62, _⟩ => ⟨S65536x1024, .f32⟩
  | .hbm, ⟨63, _⟩ => ⟨S65536x1024, .f32⟩
  | .hbm, ⟨64, _⟩ => ⟨S1x1024, .f32⟩
  | .hbm, ⟨65, _⟩ => ⟨S65536x1024, .f32⟩
  | .hbm, ⟨66, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Kernel4.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S1024x5632 : Shape := ⟨2, ![1024, 5632]⟩
abbrev S2816x1024 : Shape := ⟨2, ![2816, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 18
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S1024x1024, .f32⟩
  | .hbm, ⟨9, _⟩ => ⟨S1024x1024, .bf16⟩
  | .hbm, ⟨10, _⟩ => ⟨S1024, .f32⟩
  | .hbm, ⟨11, _⟩ => ⟨S1x1024, .f32⟩
  | .hbm, ⟨12, _⟩ => ⟨S1024x5632, .f32⟩
  | .hbm, ⟨13, _⟩ => ⟨S1024x5632, .bf16⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x5632, .f32⟩
  | .hbm, ⟨6, _⟩ => ⟨S1x2816x1024, .f32⟩
  | .hbm, ⟨7, _⟩ => ⟨S1024, .f32⟩
  | .hbm, ⟨8, _⟩ => ⟨S16384x512, .f32⟩
  | .hbm, ⟨9, _⟩ => ⟨S16384x512, .f32⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S1024x5632, .f32⟩
  | .hbm, ⟨32, _⟩ => ⟨S2816x1024, .f32⟩
  | .hbm, ⟨33, _⟩ => ⟨S16384x5632, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x2816, .f32⟩
  | .hbm, ⟨46, _⟩ => ⟨S16384x1024, .f32⟩
  | .hbm, ⟨47, _⟩ => ⟨S_, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_3 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_cst_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]
-- ==== Proof.Attn.Head.lean ====
/- One head of one query block, as the attention kernel computes it: the scores under the band mask, and the softmax with
   the sink's logit in its denominator, applied to the values. -/
module

public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic

/-- The masked scores of a block of 128 queries against its 384 keys: products plus bias where the mask holds. -/
def scores (mask : IVec S128x384 1) (q : FVec Ideal S128x64 .bf16) (k : FVec Ideal S384x64 .bf16)
    (b : FVec Ideal S1x128x384 .f32) : FVec Ideal S128x384 .f32 :=
  select mask
    (addf (matmul dot_S128x64_S384x64_S128x384_1_1_0_0_n_n none q k (constant S128x384 .f32 0x00000000#32))
      (shapeCast S128x384 b shapeCasts_S1x128x384_S128x384))
    (broadcast S128x384 (Named.named κ "mask" 0xF149F2CA#32))

/-- Each query's largest score, the sink's logit `z` included. -/
def top (s : FVec Ideal S128x384 .f32) (z : Elt Ideal .f32) : FVec Ideal S128x1 .f32 :=
  maximumf (shapeCast S128x1 (multiReduction .maximumf [1] S128 s 0xFF800000#32 reduces_S128x384_S128 (.inl rfl) rfl)
    shapeCasts_S128_S128x1) (broadcast S128x1 z)

/-- The exponentials of the scores below the largest. -/
def weights (s : FVec Ideal S128x384 .f32) (z : Elt Ideal .f32) : FVec Ideal S128x384 .f32 :=
  exp (subf s (broadcastTo S128x384 (top s z) broadcasts_S128x1_S128x384))

/-- One head: the weighted values over the sum of the weights and the sink's weight. -/
def head (s : FVec Ideal S128x384 .f32) (v : FVec Ideal S384x64 .bf16) (z : Elt Ideal .f32) : FVec Ideal S128x64 .f32 :=
  divf (matmul dot_S128x384_S384x64_S128x64_1_0_0_1_n_n none (truncf .bf16 (weights s z) bitsLt_bf16_f32) v
      (constant S128x64 .f32 0x00000000#32))
    (broadcastTo S128x64
      (addf (shapeCast S128x1 (multiReduction .add [1] S128 (weights s z) 0x00000000#32 reduces_S128x384_S128 (.inl rfl) rfl)
          shapeCasts_S128_S128x1)
        (exp (subf (broadcast S128x1 z) (top s z)))) broadcasts_S128x1_S128x64)

/-- The largest of a row of 384 scores and the sink's logit. -/
def topOf (s : Fin 384 → EReal) (z : EReal) : EReal := max (Finset.univ.fold max ⊥ s) z

/-- One output of one head: softmax of the scores `s` with the sink's logit `z`, applied to a column `v` of the values. -/
def headAt (s : Fin 384 → EReal) (v : Fin 384 → EReal) (z : EReal) : EReal :=
  Ideal.div (∑ c, Ideal.exp (s c - topOf s z) * v c) ((∑ c, Ideal.exp (s c - topOf s z)) + Ideal.exp (z - topOf s z))

/-- The pattern a row's largest score is started from is minus infinity. -/
theorem bits_bot : Ideal.ofBits .f32 0xFF800000#32 = ⊥ := by simp [Ideal.ofBits, Ideal.ieee]

theorem scores_apply (mask : IVec S128x384 1) (q : FVec Ideal S128x64 .bf16) (k : FVec Ideal S384x64 .bf16)
    (b : FVec Ideal S1x128x384 .f32) (r : Fin 128) (c : Fin 384) :
    scores mask q k b (ix2 r c)
      = Scalar.select (mask (ix2 r c)) ((∑ d : Fin 64, (q (ix2 r d) : EReal) * k (ix2 c d)) + b (ix3 0 r c)) (⊥ : EReal) := by
  have hm : (Named.named (F := Ideal) (φ := .f32) κ "mask" 0xF149F2CA#32 : EReal) = ⊥ :=
    IdealRules.named_const.ideal_named_scalar _ _ _ _ rfl
  pointwise [scores]
  rw [hm]

theorem head_apply (s : FVec Ideal S128x384 .f32) (v : FVec Ideal S384x64 .bf16) (z : Elt Ideal .f32) (r : Fin 128) (d : Fin 64) :
    head s v z (ix2 r d) = headAt (fun c => s (ix2 r c)) (fun c => v (ix2 c d)) z := by
  pointwise [head, weights, top, headAt, topOf]
  simp only [bits_bot]

end Cert.Attn

end
-- ==== Proof.Attn.Block.lean ====
/- One block of 128 queries of the attention kernel, all eight heads: what the body writes at a row and a column. -/
module

public import proofs.«01_k».proof.Proof.Attn.Head

@[expose] public section

set_option maxRecDepth 16384

noncomputable section

namespace Cert.Attn

open Cert.KernelIdeal Cert.KernelIdeal.Gen Idealize.ShloMosaic

theorem slices_q (h : Fin 8) : S128x512.Slices ![0, 64 * h.val] S128x64 := by
  revert h; decide

theorem slices_kv (h : Fin 8) : S384x128.Slices ![0, 64 * (h.val / 4)] S384x64 := by
  revert h; decide

/-- Head `h` of a block: the queries' columns from `64 h`, the keys' and values' from `64 (h / 4)`. -/
def headOf (mask : IVec S128x384 1) (Q : FVec Ideal S128x512 .bf16) (K V : FVec Ideal S384x128 .bf16)
    (b : Fin 8 → FVec Ideal S1x128x384 .f32) (z : Fin 8 → Elt Ideal .f32) (h : Fin 8) : FVec Ideal S128x64 .f32 :=
  head (scores mask (extractStridedSlice S128x64 ![0, 64 * h.val] Q (slices_q h))
      (extractStridedSlice S384x64 ![0, 64 * (h.val / 4)] K (slices_kv h)) (b h))
    (extractStridedSlice S384x64 ![0, 64 * (h.val / 4)] V (slices_kv h)) (z h)

/-- Eight heads side by side. -/
def join (H : Fin 8 → FVec Ideal S128x64 .f32) : FVec Ideal S1x128x512 .bf16 :=
  shapeCast S1x128x512 (truncf .bf16 (concatenate S128x512 1
      [⟨S128x64, H 0⟩, ⟨S128x64, H 1⟩, ⟨S128x64, H 2⟩, ⟨S128x64, H 3⟩, ⟨S128x64, H 4⟩, ⟨S128x64, H 5⟩, ⟨S128x64, H 6⟩, ⟨S128x64, H 7⟩]
      concatenates_S128x64_S128x64_S128x64_S128x64_S128x64_S128x64_S128x64_S128x64_S128x512_d1) bitsLt_bf16_f32)
    shapeCasts_S128x512_S1x128x512

/-- The body's payload is the eight heads side by side. -/
theorem payload_eq (mask : IVec S128x384 1) (q : Vec Ideal S1x128x512 .bf16) (K V : FVec Ideal S384x128 .bf16)
    (b : Fin 8 → FVec Ideal S1x128x384 .f32) (z : Fin 8 → Elt Ideal .f32) :
    k0_pay1 (k0_pay25 mask K V (k0_pay5 q) (k0_pay6 mask K V q (b 0) (z 0)) (k0_pay9 (k0_pay7 V) (k0_pay8 mask K q (b 1)) (z 1))
        (k0_pay10 mask K V (k0_pay5 q) (b 2) (z 2))
        (k0_pay14 mask (k0_pay11 (k0_pay5 q)) (k0_pay12 K) (k0_pay13 V) (constant S128x384 .f32 0x00000000#32) (b 3) (z 3))
        (k0_pay21 (k0_pay15 V) (k0_pay17 mask K (k0_pay5 q) (b 4) (z 4)) (k0_pay18 mask K (k0_pay5 q) (b 4) (z 4))
          (k0_pay19 mask K (k0_pay5 q) (b 4) (z 4)) (k0_pay20 (z 4)))
        (k0_pay22 mask K V (k0_pay5 q) (b 5) (z 5)) (k0_pay23 V) (k0_pay24 mask K (k0_pay5 q) (b 6)) (z 6) (b 7) (z 7))
      = join (headOf mask (k0_pay5 q) K V b z) := rfl

theorem join_apply (H : Fin 8 → FVec Ideal S128x64 .f32) (r : Fin 128) (h : Fin 8) (d : Fin 64) :
    join H (ix3 0 r (⟨64 * h.val + d.val, by omega⟩ : Fin 512)) = H h (ix2 r d) := by
  pointwise [join]
  split_ifs <;>
    refine congr (congrArg H (Fin.ext ?_)) (congrArg (ix2 r) (Fin.ext ?_)) <;>
    first | omega | exact absurd rfl ‹_› | (norm_num; omega)

/-- Three blocks of 128 rows one below another. -/
def stack (x y z : Vec Ideal S1x128x128 .bf16) (c : Fin 384) (e : Fin 128) : EReal :=
  if h : c.val < 128 then x (ix3 0 ⟨c.val, h⟩ e)
  else if h' : c.val - 128 < 128 then y (ix3 0 ⟨c.val - 128, h'⟩ e) else z (ix3 0 ⟨c.val - 128 - 128, by omega⟩ e)

theorem pay3_apply (x y z : Vec Ideal S1x128x128 .bf16) (c : Fin 384) (e : Fin 128) :
    k0_pay3 x y z (ix2 c e) = stack x y z c e := by
  pointwise [k0_pay3, stack]

theorem pay4_apply (x y z : Vec Ideal S1x128x128 .bf16) (c : Fin 384) (e : Fin 128) :
    k0_pay4 x y z (ix2 c e) = stack x y z c e := by
  pointwise [k0_pay4, stack]

theorem headOf_apply (mask : IVec S128x384 1) (q : Vec Ideal S1x128x512 .bf16) (K V : FVec Ideal S384x128 .bf16)
    (b : Fin 8 → FVec Ideal S1x128x384 .f32) (z : Fin 8 → Elt Ideal .f32) (h : Fin 8) (r : Fin 128) (d : Fin 64) :
    headOf mask (k0_pay5 q) K V b z h (ix2 r d)
      = headAt (fun c => Scalar.select (mask (ix2 r c))
          ((∑ e : Fin 64, ((q (ix3 0 r ⟨64 * h.val + e.val, by omega⟩) : EReal) * Ideal.ofBits .bf16 0x3E00#16)
            * K (ix2 c ⟨64 * (h.val / 4) + e.val, by omega⟩)) + b h (ix3 0 r c)) ⊥)
        (fun c => V (ix2 c ⟨64 * (h.val / 4) + d.val, by omega⟩)) (z h) := by
  unfold headOf
  rw [head_apply]
  simp only [scores_apply]
  pointwise [k0_pay5]

end Cert.Attn

end
-- ==== Proof.Attn.Words.lean ====
/- Small signed words: the operations the two programs build their masks and buckets with, at words of small integers. -/
module

public import Idealize.ShloMosaic.Lib.Pointwise

@[expose] public section

namespace Cert.Attn

open Idealize.ShloMosaic

/-- The 32-bit word of an integer. -/
abbrev wd (z : ℤ) : BitVec 32 := BitVec.ofInt 32 z

theorem wd_nat (n : ℕ) : BitVec.ofNat 32 n = wd n := by
  simp [wd]

theorem sub_wd (a b : ℤ) : IntOp.subi (wd a) (wd b) = wd (a - b) := by
  simp only [IntOp.subi, wd, Int.sub_eq_add_neg, BitVec.ofInt_add, BitVec.ofInt_neg, BitVec.sub_eq_add_neg]

theorem add_wd (a b : ℤ) : IntOp.addi (wd a) (wd b) = wd (a + b) := by
  simp [IntOp.addi, wd, BitVec.ofInt_add]

theorem mul_wd (a b : ℤ) : IntOp.muli (wd a) (wd b) = wd (a * b) := by
  simp [IntOp.muli, wd, BitVec.ofInt_mul]

theorem toInt_wd (a : ℤ) (h : |a| < 1000000) : (wd a).toInt = a := by
  rw [abs_lt] at h
  rw [wd, BitVec.toInt_ofInt]
  exact Int.bmod_eq_of_le (by norm_num; omega) (by norm_num; omega)

theorem abs_wd (a : ℤ) (h : |a| < 1000000) : IntOp.absi (wd a) = wd |a| := by
  have e := toInt_wd a h
  simp only [IntOp.absi, BitVec.msb_eq_toInt, e]
  by_cases hn : a < 0
  · rw [if_pos (by simpa using hn), abs_of_neg hn, wd, wd, BitVec.ofInt_neg]
  · rw [if_neg (by simpa using hn), abs_of_nonneg (not_lt.mp hn)]

theorem sle_wd (a b : ℤ) (ha : |a| < 1000000) (hb : |b| < 1000000) : IntOp.cmpi .sle (wd a) (wd b) = BitVec.ofBool (decide (a ≤ b)) := by
  rw [show IntOp.cmpi .sle (wd a) (wd b) = BitVec.ofBool (decide ((wd a).toInt ≤ (wd b).toInt)) from rfl, toInt_wd a ha, toInt_wd b hb]

theorem slt_wd (a b : ℤ) (ha : |a| < 1000000) (hb : |b| < 1000000) : IntOp.cmpi .slt (wd a) (wd b) = BitVec.ofBool (decide (a < b)) := by
  rw [show IntOp.cmpi .slt (wd a) (wd b) = BitVec.ofBool (decide ((wd a).toInt < (wd b).toInt)) from rfl, toInt_wd a ha, toInt_wd b hb]

theorem sge_wd (a b : ℤ) (ha : |a| < 1000000) (hb : |b| < 1000000) : IntOp.cmpi .sge (wd a) (wd b) = BitVec.ofBool (decide (b ≤ a)) := by
  rw [show IntOp.cmpi .sge (wd a) (wd b) = BitVec.ofBool (decide ((wd b).toInt ≤ (wd a).toInt)) from rfl, toInt_wd a ha, toInt_wd b hb]

theorem sgt_wd (a b : ℤ) (ha : |a| < 1000000) (hb : |b| < 1000000) : IntOp.cmpi .sgt (wd a) (wd b) = BitVec.ofBool (decide (b < a)) := by
  rw [show IntOp.cmpi .sgt (wd a) (wd b) = BitVec.ofBool (decide ((wd b).toInt < (wd a).toInt)) from rfl, toInt_wd a ha, toInt_wd b hb]

theorem and_ofBool (a b : Bool) : IntOp.andi (BitVec.ofBool a) (BitVec.ofBool b) = BitVec.ofBool (a && b) := by
  cases a <;> cases b <;> rfl

theorem or_ofBool (a b : Bool) : IntOp.ori (BitVec.ofBool a) (BitVec.ofBool b) = BitVec.ofBool (a || b) := by
  cases a <;> cases b <;> rfl

theorem select_ofBool {α : Type} (a : Bool) (x y : α) : Scalar.select (BitVec.ofBool a) x y = if a = true then x else y := by
  cases a <;> rfl

theorem ext_ofBool (a : Bool) : (BitVec.ofBool a).setWidth 32 = wd (if a = true then 1 else 0) := by
  cases a <;> rfl

theorem ite_wd (p : Prop) [Decidable p] (a b : ℤ) : (if p then wd a else wd b) = wd (if p then a else b) := by
  split_ifs <;> rfl

end Cert.Attn
-- ==== Proof.Attn.Bucket.lean ====
/- The relative-position bucket of a query row and a key column of a block. -/
module

public import Idealize.ShloMosaic.Lib.Pointwise

@[expose] public section

set_option maxRecDepth 16384

namespace Cert.Attn

open Idealize.ShloMosaic

/-- The distance between query row `r` of a block and key column `c` of its window, which starts one block earlier. -/
def dist (r c : ℕ) : ℕ := if 128 + r ≤ c then c - (128 + r) else 128 + r - c

/-- The bucket of a query row and a key column: by distance, keys ahead sixteen above keys behind. -/
def bucket (r c : ℕ) : ℕ :=
  (if 128 + r < c then 16 else 0) + if dist r c < 8 then dist r c else
    8 + (if 12 ≤ dist r c then 1 else 0) + (if 16 ≤ dist r c then 1 else 0) + (if 23 ≤ dist r c then 1 else 0)
      + (if 32 ≤ dist r c then 1 else 0) + (if 46 ≤ dist r c then 1 else 0) + (if 64 ≤ dist r c then 1 else 0)
      + (if 91 ≤ dist r c then 1 else 0)

end Cert.Attn
-- ==== Proof.Attn.Mask.lean ====
/- Which keys a query sees: the band mask of the kernel's block, and the same mask and the same buckets in the reference. -/
module

public import proofs.«01_k».proof.Proof.Attn.Block
public import proofs.«01_k».proof.Proof.Attn.Words
public import proofs.«01_k».proof.Proof.Attn.Bucket
public import proofs.«01_k».proof.Proof.Gen.ReferenceIdeal.Read

@[expose] public section

set_option maxRecDepth 16384

noncomputable section

namespace Cert.Attn

open Cert.KernelIdeal.Gen Idealize.ShloMosaic

/-- Query row `r` of block `n` sees key column `c` of the window that starts one block earlier: within 128 positions, and a
position of the sequence. -/
def Sees (n r c : ℕ) : Prop := (r ≤ c ∧ c ≤ 256 + r) ∧ (128 ≤ c ∨ 0 < n) ∧ (c < 256 ∨ n < 15)

instance (n r c : ℕ) : Decidable (Sees n r c) := by unfold Sees; infer_instance

theorem mask_apply (i : Cert.KernelIdeal.grid0.Coords) (r : Fin 128) (c : Fin 384) :
    k0_pay2 i (ix2 r c) = BitVec.ofBool (decide (Sees (i 1).val r.val c.val)) := by
  have h1 := r.isLt
  have h2 := c.isLt
  have h3 : (i 1).val < 16 := (i 1).isLt
  pointwise [k0_pay2]
  simp only [wd_nat, sub_wd, Scalar.cmpi]
  rw [abs_wd _ (by rw [abs_lt]; constructor <;> push_cast <;> omega), sle_wd, sge_wd, sgt_wd, slt_wd, slt_wd]
  · simp only [and_ofBool, or_ofBool]
    congr 1
    rw [Bool.eq_iff_iff]
    simp only [Bool.and_eq_true, Bool.or_eq_true, decide_eq_true_eq, abs_le]
    unfold Sees
    push_cast
    generalize (i 1).val = k at *
    omega
  all_goals (first | rw [abs_abs] | skip)
  all_goals (rw [abs_lt]; constructor <;> push_cast <;> omega)

open Cert.ReferenceIdeal.Read in
theorem ref_mask_apply (n : Fin 16) (r : Fin 128) (c : Fin 384) :
    val_main_v57 (F := Ideal) (ix3 n r c) = BitVec.ofBool (decide (Sees n.val r.val c.val)) := by
  simp only [val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply,
    val_main_c_1_apply, val_main_c_2_apply, val_main_c_3_apply, val_main_c_4_apply, val_main_c_5_apply, val_main_c_6_apply]
  have h1 := r.isLt
  have h2 := c.isLt
  have h3 := n.isLt
  simp only [ix3_0, ix3_1, ix3_2]
  simp only [wd_nat, sub_wd, mul_wd, add_wd]
  rw [abs_wd _ (by rw [abs_lt]; constructor <;> push_cast <;> omega), sle_wd, sge_wd, slt_wd]
  · simp only [and_ofBool]
    congr 1
    rw [Bool.eq_iff_iff]
    simp only [Bool.and_eq_true, decide_eq_true_eq, abs_le]
    unfold Sees
    push_cast
    omega
  all_goals (first | rw [abs_abs] | skip)
  all_goals (rw [abs_lt]; constructor <;> push_cast <;> omega)

/-- The distance of a query row and a key column, as integers. -/
theorem dist_eq (r c : ℕ) : |((c : ℤ) - 128 - r)| = (dist r c : ℤ) := by
  unfold dist
  split_ifs with h
  · rw [abs_of_nonneg] <;> push_cast [h] <;> omega
  · rw [abs_of_nonpos] <;> push_cast [not_le.mp h |>.le] <;> omega

open Cert.ReferenceIdeal.Read in
/-- The reference's bucket of a query row and a key column, before negative buckets are wrapped. -/
theorem ref_bucket_raw (r : Fin 128) (c : Fin 384) :
    val_main_v96 (F := Ideal) (ix2 r c) = wd (bucket r.val c.val) := by
  have h1 := r.isLt
  have h2 := c.isLt
  have hr : |((c.val : ℤ) - 128 - r.val)| < 1000000 := by rw [abs_lt]; constructor <;> omega
  have hd : |(dist r.val c.val : ℤ)| < 1000000 := by rw [← dist_eq, abs_abs]; exact hr
  simp only [val_main_v96_apply, val_main_v95_apply, val_main_v94_apply, val_main_v93_apply, val_main_v92_apply, val_main_v91_apply, val_main_v90_apply, val_main_v89_apply, val_main_v88_apply, val_main_v87_apply, val_main_v86_apply, val_main_v85_apply, val_main_v84_apply, val_main_v83_apply, val_main_v82_apply, val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v34_apply, val_main_v33_apply, val_main_v32_apply, val_main_v31_apply, val_main_v30_apply, val_main_v29_apply, val_main_v28_apply, val_main_v27_apply, val_main_v26_apply,
    val_main_c_1_apply, val_main_c_7_apply, val_main_c_8_apply, val_main_c_9_apply, val_main_c_10_apply, val_main_c_11_apply, val_main_c_12_apply, val_main_c_13_apply, val_main_c_14_apply, val_main_c_15_apply, val_main_c_16_apply, val_main_c_17_apply]
  simp only [ix2_0, ix2_1]
  simp only [wd_nat, sub_wd]
  push_cast
  rw [abs_wd _ hr, dist_eq]
  simp (disch := first | exact hr | exact hd | (rw [abs_lt]; norm_num)) only [sge_wd, sgt_wd, slt_wd, select_ofBool,
    ext_ofBool, add_wd, mul_wd, ite_wd, decide_eq_true_eq]
  congr 1
  unfold bucket
  generalize dist r.val c.val = d
  push_cast
  simp only [Nat.ofNat_le_cast, Nat.cast_lt_ofNat]
  rw [if_congr (show (0 : ℤ) < c.val - 128 - r.val ↔ 128 + r.val < c.val by omega) rfl rfl]
  split_ifs <;> omega

theorem bucket_lt (r c : ℕ) : bucket r c < 32 := by
  unfold bucket
  generalize dist r c = d
  split_ifs <;> omega

open Cert.ReferenceIdeal.Read in
/-- The reference's bucket of a query row and a key column. -/
theorem ref_bucket_apply (r : Fin 128) (c : Fin 384) :
    val_main_v101 (F := Ideal) (ix2 r c) = BitVec.ofNat 32 (bucket r.val c.val) := by
  have hb := bucket_lt r.val c.val
  simp only [val_main_v101_apply, val_main_v98_apply, val_main_v97_apply, val_main_c_18_apply, ref_bucket_raw, wd_nat]
  rw [slt_wd _ _ (by rw [abs_lt]; constructor <;> omega) (by norm_num), select_ofBool, if_neg (by simp)]

end Cert.Attn
-- ==== Proof.Attn.Reads.lean ====
/- Where the attention kernel's blocks sit in its arrays. -/
module

public import proofs.«01_k».proof.Proof.Attn.Head
public import proofs.«01_k».proof.Proof.Gen.KernelIdeal.Value
public import Idealize.ShloMosaic.Lib.Pipeline.ValueKit
public import Idealize.ShloMosaic.Lib.Pipeline.Covers

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The blocks each point reads and writes: point `t` is block `t % 16` of sequence `t / 16`. -/
theorem idx : ∀ t : Fin cfg0.N, (grid0.coords t 1).val = t.val % 16 ∧ win0_0.index t = ![0] ∧ win0_1.index t = ![t.val / 16, t.val % 16, 4]
    ∧ win0_2.index t = ![t.val / 16, t.val % 16 - 1, 20] ∧ win0_3.index t = ![t.val / 16, t.val % 16, 20]
    ∧ win0_4.index t = ![t.val / 16, min (t.val % 16 + 1) 15, 20] ∧ win0_5.index t = ![t.val / 16, t.val % 16 - 1, 21]
    ∧ win0_6.index t = ![t.val / 16, t.val % 16, 21] ∧ win0_7.index t = ![t.val / 16, min (t.val % 16 + 1) 15, 21]
    ∧ win0_8.index t = ![0, 0, 0] ∧ win0_9.index t = ![t.val / 16, t.val % 16, 0] :=
  (by decide +kernel : ∀ t : Fin grid0.N, _)

/-- The columns of one row of the array of queries, keys and values. -/
abbrev Rows := Vec Ideal S32x2048x2816 .bf16

/-- The block of point `t`, as a row of the arrays: sequence, block, row of the block. -/
abbrev at3 (s : Fin 32) (n : Fin 16) (r : Fin 128) (j : Fin 2816) : S32x2048x2816.Idx :=
  ix3 s (⟨128 * n.val + r.val, by omega⟩ : Fin 2048) j

abbrev seqOf (t : Fin cfg0.N) : Fin 32 := ⟨t.val / 16, by have : t.val < 512 := t.isLt; omega⟩
abbrev blkOf (t : Fin cfg0.N) : Fin 16 := ⟨t.val % 16, by omega⟩
/-- The block before and the block after, the first and the last standing in for what lies outside. -/
abbrev prevOf (n : Fin 16) : Fin 16 := ⟨n.val - 1, by omega⟩
abbrev nextOf (n : Fin 16) : Fin 16 := ⟨min (n.val + 1) 15, by omega⟩

theorem read_q (c : Dev nD) (t : Fin cfg0.N) (r : Fin 128) (j : Fin 512) :
    X0_1 m c t (ix3 0 r j) = (m ((c : Thread nD τ).loc main_arg0) : Rows) (at3 (seqOf t) (blkOf t) r ⟨2048 + j.val, by omega⟩) := by
  unfold at3 X0_1 Pipeline.Window.fill
  rw [dif_pos (moved0_1 t _)]
  blk_ext [iblk, V, idx t]

theorem read_kp (c : Dev nD) (t : Fin cfg0.N) (r : Fin 128) (j : Fin 128) :
    iblk m c 2 t (ix3 0 r j) = (m ((c : Thread nD τ).loc main_arg0) : Rows) (at3 (seqOf t) (prevOf (blkOf t)) r ⟨2560 + j.val, by omega⟩) := by
  unfold at3
  blk_ext [iblk, V, idx t]

theorem read_kc (c : Dev nD) (t : Fin cfg0.N) (r : Fin 128) (j : Fin 128) :
    iblk m c 3 t (ix3 0 r j) = (m ((c : Thread nD τ).loc main_arg0) : Rows) (at3 (seqOf t) (blkOf t) r ⟨2560 + j.val, by omega⟩) := by
  unfold at3
  blk_ext [iblk, V, idx t]

theorem read_kn (c : Dev nD) (t : Fin cfg0.N) (r : Fin 128) (j : Fin 128) :
    iblk m c 4 t (ix3 0 r j) = (m ((c : Thread nD τ).loc main_arg0) : Rows) (at3 (seqOf t) (nextOf (blkOf t)) r ⟨2560 + j.val, by omega⟩) := by
  unfold at3
  blk_ext [iblk, V, idx t]

theorem read_vp (c : Dev nD) (t : Fin cfg0.N) (r : Fin 128) (j : Fin 128) :
    iblk m c 5 t (ix3 0 r j) = (m ((c : Thread nD τ).loc main_arg0) : Rows) (at3 (seqOf t) (prevOf (blkOf t)) r ⟨2688 + j.val, by omega⟩) := by
  unfold at3
  blk_ext [iblk, V, idx t]

theorem read_vc (c : Dev nD) (t : Fin cfg0.N) (r : Fin 128) (j : Fin 128) :
    iblk m c 6 t (ix3 0 r j) = (m ((c : Thread nD τ).loc main_arg0) : Rows) (at3 (seqOf t) (blkOf t) r ⟨2688 + j.val, by omega⟩) := by
  unfold at3
  blk_ext [iblk, V, idx t]

theorem read_vn (c : Dev nD) (t : Fin cfg0.N) (r : Fin 128) (j : Fin 128) :
    iblk m c 7 t (ix3 0 r j) = (m ((c : Thread nD τ).loc main_arg0) : Rows) (at3 (seqOf t) (nextOf (blkOf t)) r ⟨2688 + j.val, by omega⟩) := by
  unfold at3
  blk_ext [iblk, V, idx t]

theorem read_b (c : Dev nD) (t : Fin cfg0.N) (i) :
    iblk m c 8 t i = V m c main_v5 i := by
  blk_ext [iblk, idx t]

theorem read_z (c : Dev nD) (t : Fin cfg0.N) (i) :
    iblk m c 0 t i = V m c main_v6 i := by
  blk_ext [iblk, idx t]

end Cert.Attn
-- ==== Proof.Attn.Array.lean ====
/- The attention kernel's result array: every entry, from the array of queries, keys and values, the bias and the sinks. -/
module

public import proofs.«01_k».proof.Proof.Attn.Mask
public import proofs.«01_k».proof.Proof.Attn.Reads

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The row of the sequence that key column `c` of block `n` reads: the block before, the block, the block after. -/
def keyRow (n : Fin 16) (c : Fin 384) : Fin 2048 :=
  if h : c.val < 128 then ⟨128 * (prevOf n).val + c.val, by have := (prevOf n).isLt; omega⟩
  else if h' : c.val - 128 < 128 then ⟨128 * n.val + (c.val - 128), by omega⟩
  else ⟨128 * (nextOf n).val + (c.val - 128 - 128), by have := (nextOf n).isLt; omega⟩

/-- The score of query row `r` of block `n` and key column `c` for head `h`. -/
def score (X : Rows) (B : Vec Ideal S8x128x384 .f32) (s : Fin 32) (n : Fin 16) (r : Fin 128) (h : Fin 8) (c : Fin 384) : EReal :=
  if Sees n.val r.val c.val then
    (∑ e : Fin 64, ((X (at3 s n r ⟨2048 + (64 * h.val + e.val), by omega⟩) : EReal) * Ideal.ofBits .bf16 0x3E00#16)
      * X (ix3 s (keyRow n c) ⟨2560 + (64 * (h.val / 4) + e.val), by omega⟩)) + B (ix3 h r c)
  else ⊥

/-- An entry of the result. -/
def entry (X : Rows) (B : Vec Ideal S8x128x384 .f32) (Z : Vec Ideal S8 .f32) (s : Fin 32) (n : Fin 16) (r : Fin 128) (h : Fin 8) (d : Fin 64) : EReal :=
  headAt (score X B s n r h) (fun c => X (ix3 s (keyRow n c) ⟨2688 + (64 * (h.val / 4) + d.val), by omega⟩)) (Z (ix1 h))

/-- The result array. -/
def result (X : Rows) (B : Vec Ideal S8x128x384 .f32) (Z : Vec Ideal S8 .f32) : Vec Ideal S32x2048x512 .bf16 := fun i =>
  entry X B Z (i 0) ⟨(i 1).val / 128, by have : (i 1).val < 2048 := (i 1).isLt; omega⟩ ⟨(i 1).val % 128, by omega⟩
    ⟨(i 2).val / 64, by have : (i 2).val < 512 := (i 2).isLt; omega⟩ ⟨(i 2).val % 64, by omega⟩

theorem inb_b (h : Fin 8) : ∀ a, (![h.val, 0, 0] : Fin 3 → ℕ) a + (![1, 128, 384] : Fin 3 → ℕ) a ≤ S8x128x384.size a := by
  revert h; decide

theorem inb_z (h : Fin 8) : ∀ a, (![h.val] : Fin 1 → ℕ) a + (![1] : Fin 1 → ℕ) a ≤ S8.size a := by
  revert h; decide

theorem pos_z (h : Fin 8) : 0 < (Rect.unit (s := S8) ![h.val] ![1] (inb_z h)).shape.numel := by
  revert h; decide

theorem read_bias (c : Dev nD) (t : Fin cfg0.N) (h : Fin 8) (r : Fin 128) (j : Fin 384) :
    View.ld (iblk m c 8 t) (Rect.unit ![h.val, 0, 0] ![1, 128, 384] (inb_b h)) (ix3 0 r j) = V m c main_v5 (ix3 h r j) := by
  refine (View.ld_unit_apply_of (S := S8x128x384) (iblk m c 8 t) _ _ _ _ (ix3 h r j) fun a => ?_).trans (read_b m c t _)
  match a with
  | 0 => exact rfl
  | 1 => exact (Nat.zero_add _).symm
  | 2 => exact (Nat.zero_add _).symm

theorem read_sink (c : Dev nD) (t : Fin cfg0.N) (h : Fin 8) :
    View.ld (iblk m c 0 t) (Rect.unit ![h.val] ![1] (inb_z h)) (Shape.Idx.first (pos_z h)) = V m c main_v6 (ix1 h) := by
  refine (View.ld_unit_apply_of (S := S8) (iblk m c 0 t) _ _ _ _ (ix1 h) fun a => ?_).trans (read_z m c t _)
  match a with
  | 0 => exact rfl

/-- Three stacked blocks of keys read the key rows. -/
theorem stack_keys (c : Dev nD) (t : Fin cfg0.N) (j : Fin 384) (e : Fin 128) :
    stack (iblk m c 2 t) (iblk m c 3 t) (iblk m c 4 t) j e
      = (m ((c : Thread nD τ).loc main_arg0) : Rows) (ix3 (seqOf t) (keyRow (blkOf t) j) ⟨2560 + e.val, by omega⟩) := by
  unfold stack keyRow
  split_ifs
  · exact read_kp m c t _ _
  · exact read_kc m c t _ _
  · exact read_kn m c t _ _

theorem stack_values (c : Dev nD) (t : Fin cfg0.N) (j : Fin 384) (e : Fin 128) :
    stack (iblk m c 5 t) (iblk m c 6 t) (iblk m c 7 t) j e
      = (m ((c : Thread nD τ).loc main_arg0) : Rows) (ix3 (seqOf t) (keyRow (blkOf t) j) ⟨2688 + e.val, by omega⟩) := by
  unfold stack keyRow
  split_ifs
  · exact read_vp m c t _ _
  · exact read_vc m c t _ _
  · exact read_vn m c t _ _

/-- What the body writes at a row and a head's column. -/
theorem body (c : Dev nD) (t : Fin cfg0.N) (r : Fin 128) (h : Fin 8) (d : Fin 64) :
    join (headOf (k0_pay2 (grid0.coords t)) (k0_pay5 (X0_1 m c t)) (k0_pay3 (iblk m c 2 t) (iblk m c 3 t) (iblk m c 4 t))
        (k0_pay4 (iblk m c 5 t) (iblk m c 6 t) (iblk m c 7 t))
        (fun h => View.ld (iblk m c 8 t) (Rect.unit ![h.val, 0, 0] ![1, 128, 384] (inb_b h)))
        (fun h => View.ld (iblk m c 0 t) (Rect.unit ![h.val] ![1] (inb_z h)) (Shape.Idx.first (pos_z h))))
      (ix3 0 r (⟨64 * h.val + d.val, by omega⟩ : Fin 512))
      = entry (m ((c : Thread nD τ).loc main_arg0)) (V m c main_v5) (V m c main_v6) (seqOf t) (blkOf t) r h d := by
  rw [join_apply, headOf_apply]
  simp only [mask_apply, pay3_apply, pay4_apply, stack_keys, stack_values, read_q, (idx t).1]
  simp only [read_bias, read_sink, select_ofBool, decide_eq_true_eq]
  rfl

/-- What the body writes at any index of its block is the result at the index's place. -/
theorem block (c : Dev nD) (t : Fin cfg0.N) (y : S1x128x512.Idx) :
    join (headOf (k0_pay2 (grid0.coords t)) (k0_pay5 (X0_1 m c t)) (k0_pay3 (iblk m c 2 t) (iblk m c 3 t) (iblk m c 4 t))
        (k0_pay4 (iblk m c 5 t) (iblk m c 6 t) (iblk m c 7 t))
        (fun h => View.ld (iblk m c 8 t) (Rect.unit ![h.val, 0, 0] ![1, 128, 384] (inb_b h)))
        (fun h => View.ld (iblk m c 0 t) (Rect.unit ![h.val] ![1] (inb_z h)) (Shape.Idx.first (pos_z h)))) y
      = result (m ((c : Thread nD τ).loc main_arg0)) (V m c main_v5) (V m c main_v6) (((cfg0.win 9).blk t).view.emb y) := by
  have h1 : (y 1).val < 128 := (y 1).isLt
  have h2 : (y 2).val < 512 := (y 2).isLt
  have hy : y = ix3 0 (⟨(y 1).val, h1⟩ : Fin 128) (⟨64 * (⟨(y 2).val / 64, by omega⟩ : Fin 8).val + (⟨(y 2).val % 64, by omega⟩ : Fin 64).val, by
      dsimp only; omega⟩ : Fin 512) := by
    blk_ext
  refine (congrArg _ hy).trans ((body m c t _ _ _).trans ?_)
  have e : ((cfg0.win 9).blk t).view.emb y
      = ix3 (seqOf t) (⟨128 * (blkOf t).val + (y 1).val, by have := (blkOf t).isLt; omega⟩ : Fin 2048) (⟨(y 2).val, h2⟩ : Fin 512) := by
    blk_ext [idx t]
  rw [e]
  unfold result
  congr 1
  · exact Fin.ext (by show t.val % 16 = (128 * (t.val % 16) + (y 1).val) / 128; omega)
  · exact Fin.ext (by show (y 1).val = (128 * (t.val % 16) + (y 1).val) % 128; omega)

/-- The result array after the run. -/
theorem final (c : Dev nD) : (dats m 0 c).arrAt 9 (cfgs 0).N
    = result (m ((c : Thread nD τ).loc main_arg0)) (V m c main_v5) (V m c main_v6) := by
  refine (dats m 0 c).arrAt_eq_of_covers 9 _ ((cfg0.win 9).covers_of_indexMap_surj rfl (by decide) fun β => ?_) fun t _ y => ?_
  · have h0 : (β 0).val < 32 := (β 0).isLt
    have h1 : (β 1).val < 16 := (β 1).isLt
    have h2 : (β 2).val < 1 := (β 2).isLt
    have ht : 16 * (β 0).val + (β 1).val < 512 := by omega
    refine ⟨grid0.coords (⟨16 * (β 0).val + (β 1).val, ht⟩ : Fin cfg0.N), fun a => ?_⟩
    refine (congrFun (idx ⟨16 * (β 0).val + (β 1).val, ht⟩).2.2.2.2.2.2.2.2.2.2 a).trans ?_
    match a with
    | 0 => show (16 * (β 0).val + (β 1).val) / 16 = (β 0).val; omega
    | 1 => show (16 * (β 0).val + (β 1).val) % 16 = (β 1).val; omega
    | 2 => show 0 = (β 2).val; omega
  · blk_simp
    rw [after0_9]
    unfold outsAt0
    frame_out
    refine (congrFun (payload_eq (k0_pay2 (grid0.coords t)) (X0_1 m c t) (k0_pay3 (iblk m c 2 t) (iblk m c 3 t) (iblk m c 4 t))
        (k0_pay4 (iblk m c 5 t) (iblk m c 6 t) (iblk m c 7 t))
        (fun h => View.ld (iblk m c 8 t) (Rect.unit ![h.val, 0, 0] ![1, 128, 384] (inb_b h)))
        (fun h => View.ld (iblk m c 0 t) (Rect.unit ![h.val] ![1] (inb_z h)) (Shape.Idx.first (pos_z h)))) y).trans ?_
    exact block m c t y

end Cert.Attn

end
-- ==== Proof.Attn.Table.lean ====
/- The kernel's table of relative-position buckets holds the bucket of each query row and key column. -/
module

public import proofs.«01_k».proof.Proof.Gen.KernelIdeal
public import proofs.«01_k».proof.Proof.Attn.Bucket

@[expose] public section

set_option maxRecDepth 16384

namespace Cert.Attn

open Idealize.ShloMosaic

/-- Does `f` hold below `n`? -/
def holdsBelow : ℕ → (ℕ → Bool) → Bool
  | 0, _ => true
  | n + 1, f => f n && holdsBelow n f

theorem holdsBelow_spec (n : ℕ) (f : ℕ → Bool) (h : holdsBelow n f = true) : ∀ i < n, f i = true := by
  induction n with
  | zero => intro i hi; omega
  | succ n ih =>
    simp only [holdsBelow, Bool.and_eq_true] at h
    intro i hi
    rcases Nat.lt_succ_iff_lt_or_eq.mp hi with h' | rfl
    · exact ih h.2 i h'
    · exact h.1

/-- Does the table hold the bucket of every row from `8 a` to `8 a + 7` and every column? -/
@[irreducible] noncomputable def rowsHold (a : ℕ) : Bool :=
  holdsBelow 8 fun b => holdsBelow 384 fun c =>
    Nat.beq (Cert.KernelIdeal.lit0t (384 * (8 * a + b) + c)).toNat (bucket (8 * a + b) c)

set_option maxHeartbeats 0 in
theorem rows_hold : ∀ a : Fin 16, rowsHold a.val = true := by
  intro a
  fin_cases a <;> decide +kernel

theorem table_eq (r : Fin 128) (c : Fin 384) :
    Cert.KernelIdeal.lit0t (384 * r.val + c.val) = BitVec.ofNat 32 (bucket r.val c.val) := by
  have hr := r.isLt
  have h0 := rows_hold ⟨r.val / 8, by omega⟩
  unfold rowsHold at h0
  have h := Nat.eq_of_beq_eq_true (holdsBelow_spec _ _ (holdsBelow_spec _ _ h0 (r.val % 8) (by omega)) c.val c.isLt)
  dsimp only at h
  rw [show 8 * (r.val / 8) + r.val % 8 = r.val by omega] at h
  apply BitVec.eq_of_toNat_eq
  rw [h, BitVec.toNat_ofNat, Nat.mod_eq_of_lt]
  unfold bucket dist
  have := c.isLt
  have := r.isLt
  split_ifs <;> omega

end Cert.Attn
-- ==== Proof.Attn.Bias.lean ====
/- The kernel's bias and sinks, as prepared by its host code, are the reference's. -/
module

public import proofs.«01_k».proof.Proof.Attn.Array
public import proofs.«01_k».proof.Proof.Attn.Table
public import Idealize.ShloMosaic.Lib.Claim

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- The sinks. -/
theorem sink_eq (c : Dev nD) (h : Fin 8) :
    V m c main_v6 (ix1 h) = (m ((c : Thread nD τ).loc main_arg2) : Vec Ideal S1x8 .f32) (ix2 0 h) := by
  entry_read
  pointwise

/-- The kernel's literal table at a row and a column. -/
theorem lit_eq (r : Fin 128) (j : Fin 384) : lit0 (S128x384.rowMajor (ix2 r j)) = BitVec.ofNat 32 (bucket r.val j.val) := by
  rw [← table_eq]
  have e : (S128x384.rowMajor (ix2 r j)).val = 384 * r.val + j.val := by
    rw [Shape.rowMajor_val_two]
    show r.val * 384 + j.val = _
    omega
  show lit0t (S128x384.rowMajor (ix2 r j)).val = _
  rw [e]

/-- The kernel and the reference take the same rows of the table of biases. -/
theorem rows_eq : broadcastInDim S128x384x1 ![0, 1] bcast_S128x384_S128x384x1_0_1
      (select (constantI S128x384 1 0#1)
        (addi (fun i => lit0 (S128x384.rowMajor i)) (broadcastInDim S128x384 ![] bcast_S_S128x384 (constantI S_ 32 32#32)))
        fun i => lit0 (S128x384.rowMajor i))
    = Cert.ReferenceIdeal.Read.val_main_v102 (F := Ideal) := by
  funext i
  have h0 : (i 0).val < 128 := (i 0).isLt
  have h1 : (i 1).val < 384 := (i 1).isLt
  have e : Cert.ReferenceIdeal.Read.idx_main_v102 i = ix2 (⟨(i 0).val, h0⟩ : Fin 128) (⟨(i 1).val, h1⟩ : Fin 384) := by blk_ext
  rw [Cert.ReferenceIdeal.Read.val_main_v102_apply, e, ref_bucket_apply, ← lit_eq]
  have e' : i = ix3 (⟨(i 0).val, h0⟩ : Fin 128) (⟨(i 1).val, h1⟩ : Fin 384) (0 : Fin 1) := by blk_ext
  generalize (⟨(i 0).val, h0⟩ : Fin 128) = r at e' ⊢
  generalize (⟨(i 1).val, h1⟩ : Fin 384) = j at e' ⊢
  subst e'
  pointwise

/-- The bias. -/
theorem bias_eq (c : Dev nD) (h : Fin 8) (r : Fin 128) (j : Fin 384) :
    V m c main_v5 (ix3 h r j) = Cert.ReferenceIdeal.Read.val_main_v104 (F := Ideal) (m ((c : Thread nD τ).loc main_arg1)) (ix3 h r j) := by
  entry_read
  unfold Cert.ReferenceIdeal.Read.val_main_v104 Cert.ReferenceIdeal.Read.val_main_v103
  exact congrArg (fun I => transpose S8x128x384 [2, 0, 1]
    (Host.gather gather_S32x8_S128x384x1_S128x384x8_2_0_n_n_0_2_18 (m (c, Proc.tc.devRef main_arg1)) I)
    transposes_S128x384x8_S8x128x384_2_0_1 (ix3 h r j)) rows_eq

end Cert.Attn

end
-- ==== Proof.Attn.RefRows.lean ====
/- The reference's queries, and its windows of keys and values, read from the array of queries, keys and values. -/
module

public import proofs.«01_k».proof.Proof.Attn.Array
public import proofs.«01_k».proof.Proof.Gen.ReferenceIdeal.Read
public import Idealize.ShloMosaic.Lib.KernelVsHost

@[expose] public section

set_option maxRecDepth 16384

noncomputable section

namespace Cert.Attn

open Idealize.ShloMosaic Cert.ReferenceIdeal Cert.ReferenceIdeal.Gen Cert.ReferenceIdeal.Read

/-- The reference's queries: head `h` in columns from `2048 + 64 h`. -/
theorem ref_q (X : Rows) (s : Fin 32) (n : Fin 16) (r : Fin 128) (h : Fin 8) (e : Fin 64) :
    val_main_v4 (F := Ideal) X (ix5 s n r h e) = X (at3 s n r ⟨2048 + (64 * h.val + e.val), by omega⟩) := by
  rw [val_main_v4_apply, val_main_v1_apply, val_main_v0_apply]
  unfold at3
  show X _ = X _
  blk_ext

/-- The reference's keys by blocks, one block of padding before and after: key head `h / 4` in columns from `2560 + 64 (h / 4)`. -/
theorem ref_keys (X : Rows) (s : Fin 32) (b : Fin 18) (n : Fin 16) (hb : b.val = n.val + 1) (r : Fin 128) (h : Fin 8) (e : Fin 64) :
    val_main_v9 (F := Ideal) X (ix5 s b r h e) = X (at3 s n r ⟨2560 + (64 * (h.val / 4) + e.val), by omega⟩) := by
  rw [val_main_v9_apply]
  have e1 : idx_main_v9 (ix5 s b r h e) = ix4 s (⟨128 * b.val + r.val, by omega⟩ : Fin 2304) h e := by blk_ext
  rw [e1]
  unfold val_main_v8
  rw [pad_apply_of_inside (k := ix4 s (⟨128 * n.val + r.val, by omega⟩ : Fin 2048) h e)]
  · rw [val_main_v7_apply]
    have e2 : idx_main_v7 (ix4 s (⟨128 * n.val + r.val, by omega⟩ : Fin 2048) h e)
        = ix5 s (⟨128 * n.val + r.val, by omega⟩ : Fin 2048) (⟨h.val / 4, by omega⟩ : Fin 2) (⟨h.val % 4, by omega⟩ : Fin 4) e := by blk_ext
    rw [e2, val_main_v6_apply, val_main_v5_apply, val_main_v2_apply, val_main_v0_apply]
    unfold at3
    show X _ = X _
    blk_ext
  · intro a
    match a with
    | 0 => show s.val = 0 + s.val * 1; omega
    | 1 => show 128 * b.val + r.val = 128 + (128 * n.val + r.val) * 1; omega
    | 2 => show h.val = 0 + h.val * 1; omega
    | 3 => show e.val = 0 + e.val * 1; omega

/-- The reference's values by blocks, one block of padding before and after: key head `h / 4` in columns from `2688 + 64 (h / 4)`. -/
theorem ref_values (X : Rows) (s : Fin 32) (b : Fin 18) (n : Fin 16) (hb : b.val = n.val + 1) (r : Fin 128) (h : Fin 8) (e : Fin 64) :
    val_main_v14 (F := Ideal) X (ix5 s b r h e) = X (at3 s n r ⟨2688 + (64 * (h.val / 4) + e.val), by omega⟩) := by
  rw [val_main_v14_apply]
  have e1 : idx_main_v14 (ix5 s b r h e) = ix4 s (⟨128 * b.val + r.val, by omega⟩ : Fin 2304) h e := by blk_ext
  rw [e1]
  unfold val_main_v13
  rw [pad_apply_of_inside (k := ix4 s (⟨128 * n.val + r.val, by omega⟩ : Fin 2048) h e)]
  · rw [val_main_v12_apply]
    have e2 : idx_main_v12 (ix4 s (⟨128 * n.val + r.val, by omega⟩ : Fin 2048) h e)
        = ix5 s (⟨128 * n.val + r.val, by omega⟩ : Fin 2048) (⟨h.val / 4, by omega⟩ : Fin 2) (⟨h.val % 4, by omega⟩ : Fin 4) e := by blk_ext
    rw [e2, val_main_v11_apply, val_main_v10_apply, val_main_v3_apply, val_main_v0_apply]
    unfold at3
    show X _ = X _
    blk_ext
  · intro a
    match a with
    | 0 => show s.val = 0 + s.val * 1; omega
    | 1 => show 128 * b.val + r.val = 128 + (128 * n.val + r.val) * 1; omega
    | 2 => show h.val = 0 + h.val * 1; omega
    | 3 => show e.val = 0 + e.val * 1; omega

theorem ref_k_split (X : Rows) (s : Fin 32) (n : Fin 16) (c : Fin 384) (h : Fin 8) (e : Fin 64) :
    val_main_v18 (F := Ideal) X (ix5 s n c h e)
      = if i : c.val < 128 then val_main_v15 (F := Ideal) X (ix5 s n (⟨c.val, i⟩ : Fin 128) h e)
        else if i' : c.val - 128 < 128 then val_main_v16 (F := Ideal) X (ix5 s n (⟨c.val - 128, i'⟩ : Fin 128) h e)
        else val_main_v17 (F := Ideal) X (ix5 s n (⟨c.val - 128 - 128, by omega⟩ : Fin 128) h e) := by
  pointwise [val_main_v18]

/-- The reference's window of keys at a column that lies in the sequence. -/
theorem ref_k (X : Rows) (s : Fin 32) (n : Fin 16) (c : Fin 384) (h : Fin 8) (e : Fin 64)
    (h0 : 128 ≤ c.val ∨ 0 < n.val) (h1 : c.val < 256 ∨ n.val < 15) :
    val_main_v18 (F := Ideal) X (ix5 s n c h e) = X (ix3 s (keyRow n c) ⟨2560 + (64 * (h.val / 4) + e.val), by omega⟩) := by
  have c0 (i : c.val < 128) : val_main_v15 (F := Ideal) X (ix5 s n (⟨c.val, i⟩ : Fin 128) h e)
      = X (at3 s (prevOf n) ⟨c.val, i⟩ ⟨2560 + (64 * (h.val / 4) + e.val), by omega⟩) := by
    refine (val_main_v15_apply X _).trans ((congrArg (val_main_v9 (F := Ideal) X) ?_).trans
      (ref_keys X s (⟨n.val, by omega⟩ : Fin 18) (prevOf n) (by show n.val = n.val - 1 + 1; omega) ⟨c.val, i⟩ h e))
    blk_ext
  have c1 (i0 : ¬ c.val < 128) (i : c.val - 128 < 128) : val_main_v16 (F := Ideal) X (ix5 s n (⟨c.val - 128, i⟩ : Fin 128) h e)
      = X (at3 s n ⟨c.val - 128, i⟩ ⟨2560 + (64 * (h.val / 4) + e.val), by omega⟩) := by
    refine (val_main_v16_apply X _).trans ((congrArg (val_main_v9 (F := Ideal) X) ?_).trans
      (ref_keys X s (⟨n.val + 1, by omega⟩ : Fin 18) n rfl ⟨c.val - 128, i⟩ h e))
    blk_ext
  have c2 (i0 : ¬ c.val < 128) (i1 : ¬ c.val - 128 < 128) (i : c.val - 128 - 128 < 128) : val_main_v17 (F := Ideal) X (ix5 s n (⟨c.val - 128 - 128, i⟩ : Fin 128) h e)
      = X (at3 s (nextOf n) ⟨c.val - 128 - 128, i⟩ ⟨2560 + (64 * (h.val / 4) + e.val), by omega⟩) := by
    refine (val_main_v17_apply X _).trans ((congrArg (val_main_v9 (F := Ideal) X) ?_).trans
      (ref_keys X s (⟨n.val + 2, by omega⟩ : Fin 18) (nextOf n) (by show n.val + 2 = min (n.val + 1) 15 + 1; omega) ⟨c.val - 128 - 128, i⟩ h e))
    blk_ext
  rw [ref_k_split]
  unfold keyRow
  by_cases i0 : c.val < 128
  · rw [dif_pos i0]
    simp only [dif_pos i0]
    exact c0 i0
  · rw [dif_neg i0]
    by_cases i1 : c.val - 128 < 128
    · rw [dif_pos i1]
      simp only [dif_neg i0, dif_pos i1]
      exact c1 i0 i1
    · rw [dif_neg i1]
      simp only [dif_neg i0, dif_neg i1]
      exact c2 i0 i1 (by omega)

theorem ref_v_split (X : Rows) (s : Fin 32) (n : Fin 16) (c : Fin 384) (h : Fin 8) (e : Fin 64) :
    val_main_v22 (F := Ideal) X (ix5 s n c h e)
      = if i : c.val < 128 then val_main_v19 (F := Ideal) X (ix5 s n (⟨c.val, i⟩ : Fin 128) h e)
        else if i' : c.val - 128 < 128 then val_main_v20 (F := Ideal) X (ix5 s n (⟨c.val - 128, i'⟩ : Fin 128) h e)
        else val_main_v21 (F := Ideal) X (ix5 s n (⟨c.val - 128 - 128, by omega⟩ : Fin 128) h e) := by
  pointwise [val_main_v22]

/-- The reference's window of values at a column that lies in the sequence. -/
theorem ref_v (X : Rows) (s : Fin 32) (n : Fin 16) (c : Fin 384) (h : Fin 8) (e : Fin 64)
    (h0 : 128 ≤ c.val ∨ 0 < n.val) (h1 : c.val < 256 ∨ n.val < 15) :
    val_main_v22 (F := Ideal) X (ix5 s n c h e) = X (ix3 s (keyRow n c) ⟨2688 + (64 * (h.val / 4) + e.val), by omega⟩) := by
  have c0 (i : c.val < 128) : val_main_v19 (F := Ideal) X (ix5 s n (⟨c.val, i⟩ : Fin 128) h e)
      = X (at3 s (prevOf n) ⟨c.val, i⟩ ⟨2688 + (64 * (h.val / 4) + e.val), by omega⟩) := by
    refine (val_main_v19_apply X _).trans ((congrArg (val_main_v14 (F := Ideal) X) ?_).trans
      (ref_values X s (⟨n.val, by omega⟩ : Fin 18) (prevOf n) (by show n.val = n.val - 1 + 1; omega) ⟨c.val, i⟩ h e))
    blk_ext
  have c1 (i0 : ¬ c.val < 128) (i : c.val - 128 < 128) : val_main_v20 (F := Ideal) X (ix5 s n (⟨c.val - 128, i⟩ : Fin 128) h e)
      = X (at3 s n ⟨c.val - 128, i⟩ ⟨2688 + (64 * (h.val / 4) + e.val), by omega⟩) := by
    refine (val_main_v20_apply X _).trans ((congrArg (val_main_v14 (F := Ideal) X) ?_).trans
      (ref_values X s (⟨n.val + 1, by omega⟩ : Fin 18) n rfl ⟨c.val - 128, i⟩ h e))
    blk_ext
  have c2 (i0 : ¬ c.val < 128) (i1 : ¬ c.val - 128 < 128) (i : c.val - 128 - 128 < 128) : val_main_v21 (F := Ideal) X (ix5 s n (⟨c.val - 128 - 128, i⟩ : Fin 128) h e)
      = X (at3 s (nextOf n) ⟨c.val - 128 - 128, i⟩ ⟨2688 + (64 * (h.val / 4) + e.val), by omega⟩) := by
    refine (val_main_v21_apply X _).trans ((congrArg (val_main_v14 (F := Ideal) X) ?_).trans
      (ref_values X s (⟨n.val + 2, by omega⟩ : Fin 18) (nextOf n) (by show n.val + 2 = min (n.val + 1) 15 + 1; omega) ⟨c.val - 128 - 128, i⟩ h e))
    blk_ext
  rw [ref_v_split]
  unfold keyRow
  by_cases i0 : c.val < 128
  · rw [dif_pos i0]
    simp only [dif_pos i0]
    exact c0 i0
  · rw [dif_neg i0]
    by_cases i1 : c.val - 128 < 128
    · rw [dif_pos i1]
      simp only [dif_neg i0, dif_pos i1]
      exact c1 i0 i1
    · rw [dif_neg i1]
      simp only [dif_neg i0, dif_neg i1]
      exact c2 i0 i1 (by omega)

end Cert.Attn

end
-- ==== Proof.Attn.RefEntry.lean ====
/- The reference's result at every entry. -/
module

public import proofs.«01_k».proof.Proof.Attn.RefRows

@[expose] public section

set_option maxRecDepth 16384

noncomputable section

namespace Cert.Attn

open Idealize.ShloMosaic Cert.ReferenceIdeal Cert.ReferenceIdeal.Gen Cert.ReferenceIdeal.Read

/-- The reference's score of query row `r` of block `n` and key column `c` for head `h`. -/
theorem ref_score (X : Rows) (T : Vec Ideal S32x8 .f32) (s : Fin 32) (n : Fin 16) (h : Fin 8) (r : Fin 128) (c : Fin 384) :
    val_main_v111 (F := Ideal) X T (ix5 s n h r c)
      = if Sees n.val r.val c.val then
          (∑ e : Fin 64, (X (at3 s n r ⟨2048 + (64 * h.val + e.val), by omega⟩) : EReal)
            * X (ix3 s (keyRow n c) ⟨2560 + (64 * (h.val / 4) + e.val), by omega⟩)) * Ideal.ofBits .f32 0x3E000000#32
            + val_main_v104 (F := Ideal) T (ix3 h r c)
        else ⊥ := by
  rw [val_main_v111_apply, val_main_v106_apply, val_main_v105_apply, val_main_v109_apply, val_main_v25_apply,
    val_main_v108_apply, val_main_v107_apply, val_main_v23_apply]
  have e1 : idx_main_v105 (idx_main_v106 (ix5 s n h r c)) = ix3 n r c := by blk_ext
  have e2 : idx_main_v107 (idx_main_v108 (ix5 s n h r c)) = ix3 h r c := by blk_ext
  rw [e1, e2, ref_mask_apply, select_ofBool]
  simp only [decide_eq_true_eq]
  split_ifs with hs
  · have hk : ∀ e : Fin 64, val_main_v4 (F := Ideal) X (lidx_main_v23 (ix5 s n h r c) e)
        * val_main_v18 (F := Ideal) X (ridx_main_v23 (ix5 s n h r c) e)
        = (X (at3 s n r ⟨2048 + (64 * h.val + e.val), by omega⟩) : EReal)
            * X (ix3 s (keyRow n c) ⟨2560 + (64 * (h.val / 4) + e.val), by omega⟩) := by
      intro e
      have e3 : lidx_main_v23 (ix5 s n h r c) e = ix5 s n r h e := by blk_ext
      have e4 : ridx_main_v23 (ix5 s n h r c) e = ix5 s n c h e := by blk_ext
      rw [e3, e4, ref_q, ref_k X s n c h e hs.2.1 hs.2.2]
    rw [Finset.sum_congr rfl fun e _ => hk e]
    rfl
  · rw [val_main_v110_apply, val_main_cst_20_apply]
    exact bits_bot

/-- The reference's largest score of a row. -/
theorem ref_max (X : Rows) (T : Vec Ideal S32x8 .f32) (s : Fin 32) (n : Fin 16) (h : Fin 8) (r : Fin 128) :
    val_main_v114 (F := Ideal) X T (ix4 s n h r)
      = Finset.univ.fold max (⊥ : EReal) (fun c : Fin 384 => val_main_v111 (F := Ideal) X T (ix5 s n h r c)) := by
  pointwise [val_main_v114]
  rw [val_main_cst_21_apply]
  exact congrArg (fun z : EReal => Finset.fold max z _ _) bits_bot

/-- The reference's shift of a row: the largest of its scores and the sink's logit. -/
theorem ref_shift (X : Rows) (T : Vec Ideal S32x8 .f32) (Z : Vec Ideal S1x8 .f32) (s : Fin 32) (n : Fin 16) (h : Fin 8) (r : Fin 128) :
    val_main_v117 (F := Ideal) X T Z (ix5 s n h r (0 : Fin 1))
      = topOf (fun c => val_main_v111 (F := Ideal) X T (ix5 s n h r c)) (Z (ix2 0 h)) := by
  rw [val_main_v117_apply, val_main_v115_apply, val_main_v116_apply, val_main_v113_apply, val_main_v112_apply]
  have e1 : idx_main_v115 (ix5 s n h r (0 : Fin 1)) = ix4 s n h r := by blk_ext
  have e2 : idx_main_v112 (idx_main_v113 (idx_main_v116 (ix5 s n h r (0 : Fin 1)))) = ix2 (0 : Fin 1) h := by blk_ext
  rw [e1, e2, ref_max]
  rfl

theorem ref_weight (X : Rows) (T : Vec Ideal S32x8 .f32) (Z : Vec Ideal S1x8 .f32) (s : Fin 32) (n : Fin 16) (h : Fin 8) (r : Fin 128) (c : Fin 384) :
    val_main_v120 (F := Ideal) X T Z (ix5 s n h r c)
      = Ideal.exp (val_main_v111 (F := Ideal) X T (ix5 s n h r c)
          - topOf (fun c => val_main_v111 (F := Ideal) X T (ix5 s n h r c)) (Z (ix2 0 h))) := by
  rw [val_main_v120_apply, val_main_v119_apply, val_main_v118_apply]
  have e1 : idx_main_v118 (ix5 s n h r c) = ix5 s n h r (0 : Fin 1) := by blk_ext
  rw [e1, ref_shift]
  rfl

/-- The reference's sum of weights, the sink's included. -/
theorem ref_total (X : Rows) (T : Vec Ideal S32x8 .f32) (Z : Vec Ideal S1x8 .f32) (s : Fin 32) (n : Fin 16) (h : Fin 8) (r : Fin 128) :
    val_main_v126 (F := Ideal) X T Z (ix5 s n h r (0 : Fin 1))
      = (∑ c : Fin 384, Ideal.exp (val_main_v111 (F := Ideal) X T (ix5 s n h r c)
          - topOf (fun c => val_main_v111 (F := Ideal) X T (ix5 s n h r c)) (Z (ix2 0 h))))
        + Ideal.exp (Z (ix2 0 h) - topOf (fun c => val_main_v111 (F := Ideal) X T (ix5 s n h r c)) (Z (ix2 0 h))) := by
  rw [val_main_v126_apply, val_main_v122_apply, val_main_v125_apply, val_main_v124_apply, val_main_v123_apply, val_main_v113_apply,
    val_main_v112_apply, ref_shift]
  have e1 : idx_main_v122 (ix5 s n h r (0 : Fin 1)) = ix4 s n h r := by blk_ext
  have e2 : idx_main_v112 (idx_main_v113 (idx_main_v123 (ix5 s n h r (0 : Fin 1)))) = ix2 (0 : Fin 1) h := by blk_ext
  have e3 : ∀ c : Fin 384, idx_main_v121 (ix4 s n h r) c = ix5 s n h r c := fun c => by blk_ext
  rw [e1, e2, val_main_v121_apply]
  simp only [e3, ref_weight]
  rw [val_main_cst_22_apply]
  have hz : (FloatOps.ofBits (F := Ideal) .f32 0x00000000#32 : EReal) = 0 := by
    show Ideal.ofBits .f32 0x00000000#32 = 0
    simp [Ideal.ofBits, Ideal.ieee]
  rw [hz, zero_add]
  rfl

/-- One output of one head as the reference computes it: weights divided by their sum, then the weighted values. -/
def refAt (sc : Fin 384 → EReal) (v : Fin 384 → EReal) (z : EReal) : EReal :=
  ∑ c, v c * Ideal.div (Ideal.exp (sc c - topOf sc z)) ((∑ c, Ideal.exp (sc c - topOf sc z)) + Ideal.exp (z - topOf sc z))

/-- The reference's result at an entry. -/
theorem ref_entry (X : Rows) (T : Vec Ideal S32x8 .f32) (Z : Vec Ideal S1x8 .f32) (s : Fin 32) (n : Fin 16) (r : Fin 128) (h : Fin 8) (d : Fin 64) :
    val_main_v132 (F := Ideal) X T Z (ix3 s (⟨128 * n.val + r.val, by omega⟩ : Fin 2048) (⟨64 * h.val + d.val, by omega⟩ : Fin 512))
      = refAt (fun c => val_main_v111 (F := Ideal) X T (ix5 s n h r c)) (fun c => val_main_v22 (F := Ideal) X (ix5 s n c h d)) (Z (ix2 0 h)) := by
  rw [val_main_v132_apply, val_main_v131_apply]
  have e0 : idx_main_v131 (ix3 s (⟨128 * n.val + r.val, by omega⟩ : Fin 2048) (⟨64 * h.val + d.val, by omega⟩ : Fin 512)) = ix5 s n r h d := by blk_ext
  rw [e0, val_main_v130_apply]
  have e1 : idx_main_v130 (ix5 s n r h d) = ix5 s n h d r := by blk_ext
  rw [e1, val_main_v129_apply]
  have e2 : ∀ c : Fin 384, lidx_main_v129 (ix5 s n h d r) c = ix5 s n c h d := fun c => by blk_ext
  have e3 : ∀ c : Fin 384, ridx_main_v129 (ix5 s n h d r) c = ix5 s n h r c := fun c => by blk_ext
  have e4 : ∀ c : Fin 384, idx_main_v127 (ix5 s n h r c) = ix5 s n h r (0 : Fin 1) := fun c => by blk_ext
  simp only [e2, e3, val_main_v128_apply, val_main_v127_apply, e4, ref_weight, ref_total]
  rfl

end Cert.Attn

end
-- ==== Proof.Attn.Equation.lean ====
/- Dividing the weights by their sum and then weighting the values is weighting the values and then dividing, when the scores are
numbers or minus infinity and the sink's logit is a number. -/
module

public import proofs.«01_k».proof.Proof.Attn.RefEntry

@[expose] public section

noncomputable section

namespace Cert.Attn

open Idealize.ShloMosaic

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem sum_mul_of_nonneg {ι : Type*} (s : Finset ι) (f : ι → EReal) (a : EReal) (h : 0 ≤ a) (h' : a ≠ ⊤) :
    (∑ i ∈ s, f i) * a = ∑ i ∈ s, f i * a := by
  classical
  induction s using Finset.induction_on with
  | empty => simp
  | insert i s hi ih =>
    rw [Finset.sum_insert hi, Finset.sum_insert hi, ← ih, mul_comm, EReal.left_distrib_of_nonneg_of_ne_top h h', mul_comm a,
      mul_comm a]

/-- The shift is a number. -/
theorem topOf_real (sc : Fin 384 → EReal) (z : ℝ) (hs : ∀ c, sc c ≠ ⊤) : ∃ M : ℝ, topOf sc z = M := by
  have h1 : topOf sc z < ⊤ := by
    unfold topOf
    rw [max_lt_iff, Finset.fold_max_lt]
    exact ⟨⟨bot_lt_top, fun c _ => lt_top_iff_ne_top.mpr (hs c)⟩, EReal.coe_lt_top z⟩
  have h2 : ⊥ < topOf sc z := lt_of_lt_of_le (EReal.bot_lt_coe z) (le_max_right _ _)
  exact ⟨(topOf sc z).toReal, (EReal.coe_toReal h1.ne h2.ne').symm⟩

/-- A weight is a number that is not negative, and zero where the score is minus infinity. -/
theorem weight_real (x : EReal) (M : ℝ) (hx : x ≠ ⊤) : ∃ w : ℝ, 0 ≤ w ∧ Ideal.exp (x - M) = w ∧ (x = ⊥ → w = 0) := by
  induction x with
  | bot => exact ⟨0, le_refl _, by rw [EReal.bot_sub]; rfl, fun _ => rfl⟩
  | top => exact absurd rfl hx
  | coe x =>
    refine ⟨Real.exp (x - M), (Real.exp_pos _).le, ?_, fun h => absurd h (EReal.coe_ne_bot x)⟩
    rw [← EReal.coe_sub]
    rfl

theorem head_eq (sc : Fin 384 → EReal) (v v' : Fin 384 → EReal) (z : ℝ) (hs : ∀ c, sc c ≠ ⊤) (hv : ∀ c, sc c ≠ ⊥ → v c = v' c) :
    headAt sc v z = refAt sc v' z := by
  obtain ⟨M, hM⟩ := topOf_real sc z hs
  unfold headAt refAt
  rw [hM]
  choose w hw hwe hw0 using fun c => weight_real (sc c) M (hs c)
  simp only [hwe]
  have hz : Ideal.exp ((z : EReal) - M) = (Real.exp (z - M) : ℝ) := by
    rw [← EReal.coe_sub]
    rfl
  have hD : (∑ c, (w c : EReal)) + Ideal.exp ((z : EReal) - M) = ((∑ c, w c + Real.exp (z - M) : ℝ) : EReal) := by
    rw [hz, EReal.coe_add, coe_sum]
  rw [hD]
  have hpos : 0 < ∑ c, w c + Real.exp (z - M) := add_pos_of_nonneg_of_pos (Finset.sum_nonneg fun c _ => hw c) (Real.exp_pos _)
  generalize ∑ c, w c + Real.exp (z - M) = D at hpos
  have hdiv : ∀ x : EReal, Ideal.div x (D : EReal) = x * ((D⁻¹ : ℝ) : EReal) := by
    intro x
    unfold Ideal.div
    rw [if_neg (by exact_mod_cast hpos.ne'), EReal.coe_inv]
  simp only [hdiv]
  rw [sum_mul_of_nonneg _ _ _ (by exact_mod_cast (inv_pos.mpr hpos).le) (EReal.coe_ne_top _)]
  refine Finset.sum_congr rfl fun c _ => ?_
  by_cases hc : sc c = ⊥
  · rw [hw0 c hc]
    simp
  · rw [hv c hc, mul_comm (w c : EReal), mul_assoc]

/-- Scaling the queries by an eighth is scaling their products with the keys, for numbers. -/
theorem scaled_sum (q k : Fin 64 → EReal) (a : ℝ) (hq : ∀ e, ∃ x : ℝ, q e = x) (hk : ∀ e, ∃ x : ℝ, k e = x) :
    ∑ e, q e * a * k e = (∑ e, q e * k e) * a := by
  choose x hx using hq
  choose y hy using hk
  have h1 : ∑ e, q e * a * k e = ((∑ e, x e * a * y e : ℝ) : EReal) := by
    rw [coe_sum]
    exact Finset.sum_congr rfl fun e _ => by rw [hx, hy, EReal.coe_mul, EReal.coe_mul]
  have h2 : ∑ e, q e * k e = ((∑ e, x e * y e : ℝ) : EReal) := by
    rw [coe_sum]
    exact Finset.sum_congr rfl fun e _ => by rw [hx, hy, EReal.coe_mul]
  have h3 : ∑ e, x e * a * y e = (∑ e, x e * y e) * a := by
    rw [Finset.sum_mul]
    exact Finset.sum_congr rfl fun e _ => by ring
  rw [h1, h2, h3, EReal.coe_mul]

theorem eighth_bf16 : Ideal.ofBits .bf16 0x3E00#16 = ((1 / 8 : ℝ) : EReal) := by
  simp [Ideal.ofBits, Ideal.ieee, -EReal.coe_mul]
  norm_num

theorem eighth_f32 : Ideal.ofBits .f32 0x3E000000#32 = ((1 / 8 : ℝ) : EReal) := by
  simp [Ideal.ofBits, Ideal.ieee, -EReal.coe_mul]
  norm_num

end Cert.Attn

end
-- ==== Proof.Attn.Finite.lean ====
/- What the precondition says: the queries, the keys, the bias table and the sinks are numbers. -/
module

public import proofs.«01_k».proof.Proof.Gen.Pre_finite_scores
public import proofs.«01_k».proof.Proof.Attn.Equation

@[expose] public section

set_option maxRecDepth 16384

noncomputable section

namespace Cert.Attn

open Idealize.ShloMosaic

/-- A conjunction over a list holds only if every part does. -/
theorem foldl_andi {β : Type*} (l : List β) (f : β → BitVec 1) (b : BitVec 1)
    (h : l.foldl (fun r n => IntOp.andi r (f n)) b = 1#1) : b = 1#1 ∧ ∀ n ∈ l, f n = 1#1 := by
  induction l generalizing b with
  | nil => exact ⟨h, fun n hn => absurd hn List.not_mem_nil⟩
  | cons a l ih =>
    obtain ⟨h1, h2⟩ := ih _ h
    have h3 : b = 1#1 ∧ f a = 1#1 := IntOp.andi_eq_one.mp h1
    exact ⟨h3.1, fun n hn => (List.mem_cons.mp hn).elim (fun e => e ▸ h3.2) (h2 n)⟩

theorem reduce_andi {s t u : Shape} {axes : List (Fin s.rank)} (x : s.Idx → BitVec 1) (init : u.Idx → BitVec 1)
    (h : s.ReducesTo axes t) (hu : 0 < u.numel) (j : t.Idx) (hj : ∀ j' : t.Idx, j' = j)
    (e : Host.reduce IntOp.andi x init h hu j = 1#1) (i : s.Idx) : x i = 1#1 := by
  have h1 := (foldl_andi _ (fun n => x (s.rowMajor.symm n)) _ e).2 (s.rowMajor i)
    (List.mem_filter.mpr ⟨List.mem_finRange _, by simpa using hj _⟩)
  simpa using h1

/-- An absolute value below infinity is a number's. -/
theorem real_of_lt (x : EReal) (h : FloatOps.cmpf (F := Ideal) (φ := .f32) .olt (FloatOps.absf (F := Ideal) (φ := .f32) x) (FloatOps.ofBits .f32 0x7F800000#32) = 1#1) :
    ∃ y : ℝ, x = y := by
  have h1 : (FloatOps.ofBits (F := Ideal) .f32 0x7F800000#32 : EReal) = ⊤ := by
    show Ideal.ofBits .f32 0x7F800000#32 = ⊤
    simp [Ideal.ofBits, Ideal.ieee]
  rw [h1] at h
  simp only [FloatOps.cmpf, FloatOps.absf] at h
  induction x with
  | bot => simp [Ideal.cmp] at h
  | top => simp [Ideal.cmp] at h
  | coe x => exact ⟨x, rfl⟩

theorem inputs_real (X : Rows) (T : Vec Ideal Cert.ReferenceIdeal.S32x8 .f32) (Z : Vec Ideal Cert.ReferenceIdeal.S1x8 .f32)
    (h : Cert.Pre_finite_scores.fn (F := Ideal) X T Z = fun _ => 1#1) :
    (∀ (s : Fin 32) (i : Fin 2048) (j : Fin 2816), 2048 ≤ j.val → j.val < 2688 → ∃ y : ℝ, (X (ix3 s i j) : EReal) = y)
      ∧ (∀ i, ∃ y : ℝ, (T i : EReal) = y) ∧ (∀ i, ∃ y : ℝ, (Z i : EReal) = y) := by
  have h0 := congrFun h (Shape.Idx.first (by decide))
  unfold Cert.Pre_finite_scores.fn at h0
  obtain ⟨h1, h2⟩ := IntOp.andi_eq_one.mp h0
  obtain ⟨h3, h4⟩ := IntOp.andi_eq_one.mp h1
  refine ⟨fun s i j l u => ?_, fun i => ?_, fun i => ?_⟩
  · have := reduce_andi _ _ _ _ _ (fun _ => funext fun a => a.elim0) h3 (ix3 s i (⟨j.val - 2048, by omega⟩ : Fin 640))
    obtain ⟨y, hy⟩ := real_of_lt _ this
    refine ⟨y, Eq.trans (Eq.symm ?_) hy⟩
    exact extractStridedSlice_apply ![0, 0, 2048] X Cert.Pre_finite_scores.Gen.slices_S32x2048x2816_S32x2048x640_0_0_2048 _ (ix3 s i j) fun a => match a with
      | 0 => by show s.val = 0 + s.val; omega
      | 1 => by show i.val = 0 + i.val; omega
      | 2 => by show j.val = 2048 + (j.val - 2048); omega
  · exact real_of_lt _ (reduce_andi _ _ _ _ _ (fun _ => funext fun a => a.elim0) h4 i)
  · exact real_of_lt _ (reduce_andi _ _ _ _ _ (fun _ => funext fun a => a.elim0) h2 i)

end Cert.Attn

end
-- ==== Proof.Attn.Main.lean ====
/- Under the precondition the attention kernel's result array is the reference's. -/
module

public import proofs.«01_k».proof.Proof.Attn.Bias
public import proofs.«01_k».proof.Proof.Attn.Finite

@[expose] public section

set_option maxRecDepth 16384

noncomputable section

namespace Cert.Attn

open Idealize.ShloMosaic Idealize.ShloMosaic.TcCoe Idealize.SL.Sem
open Cert.KernelIdeal Cert.KernelIdeal.Gen

/-- An entry of the bias is an entry of the table. -/
theorem bias_entry (T : Vec Ideal S32x8 .f32) (i : S8x128x384.Idx) :
    ∃ k : S32x8.Idx, Cert.ReferenceIdeal.Read.val_main_v104 (F := Ideal) T i = T k := ⟨_, rfl⟩

/-- A finite sum of products of numbers is a number. -/
theorem sum_real (q k : Fin 64 → EReal) (hq : ∀ e, ∃ x : ℝ, q e = x) (hk : ∀ e, ∃ x : ℝ, k e = x) :
    ∃ x : ℝ, ∑ e, q e * k e = x := by
  choose x hx using hq
  choose y hy using hk
  refine ⟨∑ e, x e * y e, ?_⟩
  rw [coe_sum]
  exact Finset.sum_congr rfl fun e _ => by rw [hx, hy, EReal.coe_mul]

/-- The scores agree: scaling the queries is scaling the products. -/
theorem score_eq (X : Rows) (T : Vec Ideal S32x8 .f32) (B : Vec Ideal S8x128x384 .f32)
    (hX : ∀ s i j, 2048 ≤ j.val → j.val < 2688 → ∃ y : ℝ, (X (ix3 s i j) : EReal) = y)
    (hB : ∀ h r c, B (ix3 h r c) = Cert.ReferenceIdeal.Read.val_main_v104 (F := Ideal) T (ix3 h r c))
    (s : Fin 32) (n : Fin 16) (r : Fin 128) (h : Fin 8) (c : Fin 384) :
    score X B s n r h c = Cert.ReferenceIdeal.Read.val_main_v111 (F := Ideal) X T (ix5 s n h r c) := by
  rw [ref_score]
  unfold score
  by_cases hs : Sees n.val r.val c.val
  · rw [if_pos hs, if_pos hs, hB, eighth_bf16, eighth_f32]
    refine congrArg (fun z : EReal => z + _) (scaled_sum _ _ _ (fun e => hX _ _ _ ?_ ?_) (fun e => hX _ _ _ ?_ ?_)) <;> simp only <;> omega
  · rw [if_neg hs, if_neg hs]

/-- A score is a number or minus infinity. -/
theorem score_lt (X : Rows) (T : Vec Ideal S32x8 .f32)
    (hX : ∀ s i j, 2048 ≤ j.val → j.val < 2688 → ∃ y : ℝ, (X (ix3 s i j) : EReal) = y)
    (hT : ∀ i, ∃ y : ℝ, (T i : EReal) = y)
    (s : Fin 32) (n : Fin 16) (r : Fin 128) (h : Fin 8) (c : Fin 384) :
    Cert.ReferenceIdeal.Read.val_main_v111 (F := Ideal) X T (ix5 s n h r c) ≠ (⊤ : EReal) := by
  rw [ref_score]
  by_cases hs : Sees n.val r.val c.val
  · rw [if_pos hs]
    obtain ⟨k, hk⟩ := bias_entry T (ix3 h r c)
    obtain ⟨y, hy⟩ := hT k
    obtain ⟨x, hx⟩ := sum_real (fun e : Fin 64 => X (at3 s n r ⟨2048 + (64 * h.val + e.val), by omega⟩))
      (fun e : Fin 64 => X (ix3 s (keyRow n c) ⟨2560 + (64 * (h.val / 4) + e.val), by omega⟩))
      (fun e => hX _ _ _ (by simp only; omega) (by simp only; omega)) (fun e => hX _ _ _ (by simp only; omega) (by simp only; omega))
    rw [hk, hy, eighth_f32]
    refine fun e => EReal.coe_ne_top (x * (1 / 8) + y) (Eq.trans ?_ e)
    rw [EReal.coe_add, EReal.coe_mul]
    exact congrArg (fun z : EReal => z * _ + _) hx.symm
  · rw [if_neg hs]
    exact bot_ne_top

theorem result_eq (X : Rows) (T : Vec Ideal S32x8 .f32) (Z : Vec Ideal S1x8 .f32) (B : Vec Ideal S8x128x384 .f32) (Z' : Vec Ideal S8 .f32)
    (hX : ∀ s i j, 2048 ≤ j.val → j.val < 2688 → ∃ y : ℝ, (X (ix3 s i j) : EReal) = y)
    (hT : ∀ i, ∃ y : ℝ, (T i : EReal) = y) (hZ : ∀ i, ∃ y : ℝ, (Z i : EReal) = y)
    (hB : ∀ h r c, B (ix3 h r c) = Cert.ReferenceIdeal.Read.val_main_v104 (F := Ideal) T (ix3 h r c))
    (hZ' : ∀ h, Z' (ix1 h) = Z (ix2 0 h)) :
    result X B Z' = Cert.ReferenceIdeal.Read.val_main_v132 (F := Ideal) X T Z := by
  funext i
  have h1 : (i 1).val < 2048 := (i 1).isLt
  have h2 : (i 2).val < 512 := (i 2).isLt
  obtain ⟨s, hs⟩ : ∃ s : Fin 32, s = i 0 := ⟨_, rfl⟩
  obtain ⟨n, hn⟩ : ∃ n : Fin 16, n = ⟨(i 1).val / 128, by omega⟩ := ⟨_, rfl⟩
  obtain ⟨r, hr⟩ : ∃ r : Fin 128, r = ⟨(i 1).val % 128, by omega⟩ := ⟨_, rfl⟩
  obtain ⟨h, hh⟩ : ∃ h : Fin 8, h = ⟨(i 2).val / 64, by omega⟩ := ⟨_, rfl⟩
  obtain ⟨d, hd⟩ : ∃ d : Fin 64, d = ⟨(i 2).val % 64, by omega⟩ := ⟨_, rfl⟩
  have e : i = ix3 s (⟨128 * n.val + r.val, by omega⟩ : Fin 2048) (⟨64 * h.val + d.val, by omega⟩ : Fin 512) := by
    subst hs hn hr hh hd
    funext a
    match a with
    | 0 => rfl
    | 1 => exact Fin.ext (show (i 1).val = 128 * ((i 1).val / 128) + (i 1).val % 128 by omega)
    | 2 => exact Fin.ext (show (i 2).val = 64 * ((i 2).val / 64) + (i 2).val % 64 by omega)
  have e' : result X B Z' i = entry X B Z' s n r h d := by subst hs hn hr hh hd; rfl
  rw [e', e, ref_entry]
  obtain ⟨z, hz⟩ := hZ (ix2 0 h)
  unfold entry
  have es : score X B s n r h = fun c => Cert.ReferenceIdeal.Read.val_main_v111 (F := Ideal) X T (ix5 s n h r c) :=
    funext fun c => score_eq X T B hX hB s n r h c
  rw [es, hZ', hz]
  refine head_eq _ _ _ z (fun c => score_lt X T hX hT s n r h c) fun c hc => ?_
  have hS : Sees n.val r.val c.val := by
    by_contra hS
    exact hc ((ref_score X T s n h r c).trans (if_neg hS))
  exact (ref_v X s n c h d hS.2.1 hS.2.2).symm

end Cert.Attn

end
-- ==== Proof.Attn.Algebraic.lean ====
/- The attention's algebraic claim. -/
module

public import proofs.«01_k».proof.Defs
public import proofs.«01_k».proof.Proof.Attn.Main
public import proofs.«01_k».proof.Proof.Gen.ReferenceIdeal.Run
public import Idealize.ShloMosaic.Adequacy
public import Idealize.ShloMosaic.Init

@[expose] public section

set_option maxRecDepth 16384

noncomputable section

namespace Cert.Attn

open Idealize.ShloMosaic Idealize.ShloMosaic.TcCoe Idealize.SL.Sem

/-- The banded attention kernel and the plain attention end with the same result. -/
theorem algebraic : Cert.algebraic_KernelIdeal_ReferenceIdeal_pre_finite_scores := by
  pair_intro
  · run_from Cert.KernelIdeal.Value.run_blocks m g
  · run_from Cert.ReferenceIdeal.Value.run m' g'
    obtain ⟨hX, hT, hZ⟩ := inputs_real _ _ _ (hpre c)
    refine (Cert.ReferenceIdeal.Read.val_main_v132_eq (StableHlo.launchContents m' c)).trans ?_
    show Cert.ReferenceIdeal.Read.val_main_v132 (F := Ideal) (m' (c.tc.loc Cert.ReferenceIdeal.main_arg0))
      (m' (c.tc.loc Cert.ReferenceIdeal.main_arg1)) (m' (c.tc.loc Cert.ReferenceIdeal.main_arg2)) = _
    rw [(hagree c).1, (hagree c).2.1, (hagree c).2.2, final m c]
    exact (result_eq _ _ _ _ _ hX hT hZ (bias_eq m c) (sink_eq m c)).symm

end Cert.Attn

end
-- ==== Proof.Ffn.Rows.lean ====
/- The layer's row operations: the root-mean-square norm and the gated feed-forward, a row at a time. -/
module

public import Idealize.ShloMosaic.Lib.Pointwise

@[expose] public section

noncomputable section

namespace Cert.Ffn

open Idealize.ShloMosaic

/-- The root-mean-square norm of a row of 1024, with its gains. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- One unit of the gated hidden layer: the gate column `j`, the value column `2816 + j`. -/
def unit (y : Fin 1024 → EReal) (W : Fin 1024 → Fin 5632 → EReal) (j : Fin 2816) : EReal :=
  (∑ k, y k * W k ⟨j.val, by omega⟩) * Ideal.logistic (∑ k, y k * W k ⟨j.val, by omega⟩) * ∑ k, y k * W k ⟨2816 + j.val, by omega⟩

/-- The gated feed-forward of a row. -/
def ffn (y : Fin 1024 → EReal) (W : Fin 1024 → Fin 5632 → EReal) (D : Fin 2816 → Fin 1024 → EReal) (d : Fin 1024) : EReal :=
  ∑ j, unit y W j * D j d

/-- A row plus half the feed-forward of its norm. -/
def half (h g : Fin 1024 → EReal) (W : Fin 1024 → Fin 5632 → EReal) (D : Fin 2816 → Fin 1024 → EReal) (d : Fin 1024) : EReal :=
  h d + Ideal.ofBits .f32 0x3F000000#32 * ffn (norm h g) W D d

/-- A row plus two mixed rows through the two halves of the output weights. -/
def mixed (h : Fin 1024 → EReal) (a b : Fin 512 → EReal) (W : Fin 1024 → Fin 1024 → EReal) (d : Fin 1024) : EReal :=
  h d + (∑ k, a k * W ⟨k.val, by omega⟩ d) + ∑ k, b k * W ⟨512 + k.val, by omega⟩ d

/-- The column of the input weights that head column `j` is computed from: the recurrent heads' columns first, then the attention's. -/
def headCol (j : Fin 2816) : Fin 2848 := if h : j.val < 2048 then ⟨768 + j.val, by omega⟩ else ⟨j.val - 2048, by omega⟩

/-- A head column of a normed row. -/
def head (y : Fin 1024 → EReal) (W : Fin 1024 → Fin 2848 → EReal) (j : Fin 2816) : EReal := ∑ k, y k * W k (headCol j)

/-- A gate column of a normed row: 32 gates with their biases, then zeros. -/
def gate (y : Fin 1024 → EReal) (W : Fin 1024 → Fin 2848 → EReal) (b : Fin 4 → Fin 8 → EReal) (j : Fin 128) : EReal :=
  if h : j.val < 32 then (∑ k, y k * W k ⟨2816 + j.val, by omega⟩) + b ⟨j.val / 8, by omega⟩ ⟨j.val % 8, by omega⟩ else 0

/-- A sum is the sum of its two halves. -/
theorem sum_halves (a b n : ℕ) (h : a + b = n) (f : Fin n → EReal) :
    ∑ j, f j = ∑ j : Fin a, f ⟨j.val, by omega⟩ + ∑ j : Fin b, f ⟨a + j.val, by omega⟩ := by
  subst h
  exact Fin.sum_univ_add f

theorem ffn_halves (y : Fin 1024 → EReal) (W : Fin 1024 → Fin 5632 → EReal) (D : Fin 2816 → Fin 1024 → EReal) (d : Fin 1024) :
    ffn y W D d = ∑ j : Fin 1408, unit y W ⟨j.val, by omega⟩ * D ⟨j.val, by omega⟩ d
      + ∑ j : Fin 1408, unit y W ⟨1408 + j.val, by omega⟩ * D ⟨1408 + j.val, by omega⟩ d :=
  sum_halves 1408 1408 2816 rfl fun j => unit y W j * D j d

theorem zero_bits : Ideal.ofBits .f32 0x00000000#32 = 0 := by
  simp [Ideal.ofBits, Ideal.ieee]

theorem one_bits : Ideal.ofBits .f32 0x3F800000#32 = 1 := by
  have h : Ideal.ofBits .f32 0x3F800000#32 = ((1 : ℝ) : EReal) := by
    simp [Ideal.ofBits, Ideal.ieee, -EReal.coe_mul]
    norm_num
  rw [h, EReal.coe_one]

/-- The logistic spelt out. -/
theorem logistic_eq (x : EReal) :
    Ideal.div (Ideal.ofBits .f32 0x3F800000#32) (Ideal.ofBits .f32 0x3F800000#32 + Ideal.exp (-x)) = Ideal.logistic x := by
  rw [one_bits]
  rfl

end Cert.Ffn

end
-- ==== Proof.Proj.Payload.lean ====
/- What the projection call's body computes from its blocks, an entry at a time. -/
module

public import proofs.«01_k».proof.Proof.Gen.Kernel2Ideal.Skeleton
public import proofs.«01_k».proof.Proof.Ffn.Rows
public import Idealize.ShloMosaic.Lib.Pointwise

@[expose] public section

set_option maxRecDepth 16384

noncomputable section

namespace Cert.Proj

open Cert.Kernel2Ideal Cert.Kernel2Ideal.Gen Cert.Ffn Idealize.ShloMosaic

theorem pay1_apply (x : Vec Ideal S256x1024 .f32) (g : Vec Ideal S1x1024 .f32) (r : Fin 256) (d : Fin 1024) :
    k0_pay1 x g (ix2 r d) = norm (fun k => x (ix2 r k)) (fun k => g (ix2 0 k)) d := by
  pointwise [k0_pay1]
  rfl

/-- The first half of the feed-forward. -/
theorem pay2_apply (x : Vec Ideal S256x1024 .f32) (g : Vec Ideal S1x1024 .f32) (wg wu : Vec Ideal S1024x1408 .bf16) (dn : Vec Ideal S1408x1024 .bf16)
    (r : Fin 256) (d : Fin 1024) :
    k0_pay2 x g wg wu dn (ix2 r d)
      = ∑ j : Fin 1408, (∑ k : Fin 1024, (k0_pay1 x g (ix2 r k) : EReal) * wg (ix2 k j))
          * Ideal.logistic (∑ k : Fin 1024, (k0_pay1 x g (ix2 r k) : EReal) * wg (ix2 k j))
          * (∑ k : Fin 1024, (k0_pay1 x g (ix2 r k) : EReal) * wu (ix2 k j)) * dn (ix2 j d) := by
  unfold k0_pay2
  generalize k0_pay1 x g = y
  pointwise

theorem pay3_apply (x : Vec Ideal S256x1024 .f32) (g : Vec Ideal S1x1024 .f32) (wu : Vec Ideal S1024x1408 .bf16) (r : Fin 256) (j : Fin 1408) :
    k0_pay3 x g wu (ix2 r j) = ∑ k : Fin 1024, (k0_pay1 x g (ix2 r k) : EReal) * wu (ix2 k j) := by
  unfold k0_pay3
  generalize k0_pay1 x g = y
  pointwise

theorem pay4_apply (x : Vec Ideal S256x1024 .f32) (g : Vec Ideal S1x1024 .f32) (wg : Vec Ideal S1024x1408 .bf16) (r : Fin 256) (j : Fin 1408) :
    k0_pay4 x g wg (ix2 r j) = (∑ k : Fin 1024, (k0_pay1 x g (ix2 r k) : EReal) * wg (ix2 k j))
      * Ideal.logistic (∑ k : Fin 1024, (k0_pay1 x g (ix2 r k) : EReal) * wg (ix2 k j)) := by
  unfold k0_pay4
  generalize k0_pay1 x g = y
  pointwise

section after

variable (x : Vec Ideal S256x1024 .f32) (f : FVec Ideal S256x1024 .f32) (u s : FVec Ideal S256x1408 .f32) (dn : Vec Ideal S1408x1024 .bf16)

/-- The row after the feed-forward. -/
theorem pay5_apply (r : Fin 256) (d : Fin 1024) :
    k0_pay5 x f u s dn (ix2 r d) = (x (ix2 r d) : EReal) + Ideal.ofBits .f32 0x3F000000#32 *
      ((f (ix2 r d) : EReal) + ∑ j : Fin 1408, (s (ix2 r j) : EReal) * u (ix2 r j) * dn (ix2 j d)) := by
  pointwise [k0_pay5]

theorem pay6_apply (g : Vec Ideal S1x1024 .f32) (r : Fin 256) (d : Fin 1024) :
    k0_pay6 x f u s dn g (ix2 r d) = norm (fun k => k0_pay5 x f u s dn (ix2 r k)) (fun k => g (ix2 0 k)) d := by
  unfold k0_pay6
  generalize k0_pay5 x f u s dn = y
  pointwise
  rfl

theorem pay7_apply (g : Vec Ideal S1x1024 .f32) (w : Vec Ideal S1024x2816 .bf16) (r : Fin 256) (j : Fin 2816) :
    k0_pay7 x f u s dn g w (ix2 r j) = ∑ k : Fin 1024, (k0_pay6 x f u s dn g (ix2 r k) : EReal) * w (ix2 k j) := by
  unfold k0_pay7
  generalize k0_pay6 x f u s dn g = y
  pointwise

theorem pay8_apply (g : Vec Ideal S1x1024 .f32) (w : Vec Ideal S1024x128 .bf16) (b : Vec Ideal S1x128 .f32) (r : Fin 256) (j : Fin 128) :
    k0_pay8 x f u s dn g w b (ix2 r j) = (∑ k : Fin 1024, (k0_pay6 x f u s dn g (ix2 r k) : EReal) * w (ix2 k j)) + b (ix2 0 j) := by
  unfold k0_pay8
  generalize k0_pay6 x f u s dn g = y
  pointwise

end after

end Cert.Proj

end
-- ==== Proof.Proj.Concat.lean ====
/- The host's layout of the input weights: the head columns reordered, the gate columns padded. -/
module

public import proofs.«01_k».proof.Proof.Gen.Kernel2Ideal.Value
public import proofs.«01_k».proof.Proof.Ffn.Rows
public import Idealize.ShloMosaic.Lib.KernelVsHost
public import Idealize.ShloMosaic.Lib.Pipeline.ValueKit

@[expose] public section

set_option maxRecDepth 16384

noncomputable section

namespace Cert.Proj

open Cert.Kernel2Ideal Cert.Kernel2Ideal.Gen Cert.Ffn Idealize.ShloMosaic

section concat

variable (a b c d e : FVec Ideal S1024x512 .f32) (f g : FVec Ideal S1024x128 .f32)

theorem concat_split (k : Fin 1024) (j : Fin 2816) :
    concatenate S1024x2816 1 [⟨S1024x512, a⟩, ⟨S1024x512, b⟩, ⟨S1024x512, c⟩, ⟨S1024x512, d⟩, ⟨S1024x512, e⟩, ⟨S1024x128, f⟩, ⟨S1024x128, g⟩]
        concatenates_S1024x512_S1024x512_S1024x512_S1024x512_S1024x512_S1024x128_S1024x128_S1024x2816_d1 (ix2 k j)
      = if h : j.val < 512 then a (ix2 k ⟨j.val, h⟩)
        else if h : j.val - 512 < 512 then b (ix2 k ⟨j.val - 512, h⟩)
        else if h : j.val - 512 - 512 < 512 then c (ix2 k ⟨j.val - 512 - 512, h⟩)
        else if h : j.val - 512 - 512 - 512 < 512 then d (ix2 k ⟨j.val - 512 - 512 - 512, h⟩)
        else if h : j.val - 512 - 512 - 512 - 512 < 512 then e (ix2 k ⟨j.val - 512 - 512 - 512 - 512, h⟩)
        else if h : j.val - 512 - 512 - 512 - 512 - 512 < 128 then f (ix2 k ⟨j.val - 512 - 512 - 512 - 512 - 512, h⟩)
        else g (ix2 k ⟨j.val - 512 - 512 - 512 - 512 - 512 - 128, by omega⟩) := by
  pointwise

/-- The seven slices side by side are the reordered columns. -/
theorem concat_cols (k : Fin 1024) (w : Fin 2848 → EReal) (ha : ∀ i : Fin 512, a (ix2 k i) = w ⟨768 + i.val, by omega⟩)
    (hb : ∀ i : Fin 512, b (ix2 k i) = w ⟨1280 + i.val, by omega⟩) (hc : ∀ i : Fin 512, c (ix2 k i) = w ⟨1792 + i.val, by omega⟩)
    (hd : ∀ i : Fin 512, d (ix2 k i) = w ⟨2304 + i.val, by omega⟩) (he : ∀ i : Fin 512, e (ix2 k i) = w ⟨i.val, by omega⟩)
    (hf : ∀ i : Fin 128, f (ix2 k i) = w ⟨512 + i.val, by omega⟩) (hg : ∀ i : Fin 128, g (ix2 k i) = w ⟨640 + i.val, by omega⟩) (j : Fin 2816) :
    concatenate S1024x2816 1 [⟨S1024x512, a⟩, ⟨S1024x512, b⟩, ⟨S1024x512, c⟩, ⟨S1024x512, d⟩, ⟨S1024x512, e⟩, ⟨S1024x128, f⟩, ⟨S1024x128, g⟩]
        concatenates_S1024x512_S1024x512_S1024x512_S1024x512_S1024x512_S1024x128_S1024x128_S1024x2816_d1 (ix2 k j)
      = w (headCol j) := by
  have at' (n : ℕ) (hn : n < 2848) (h : n = (headCol j).val) : w ⟨n, hn⟩ = w (headCol j) := congrArg w (Fin.ext h)
  have hcol : (headCol j).val = if j.val < 2048 then 768 + j.val else j.val - 2048 := by unfold headCol; split_ifs <;> rfl
  rw [concat_split]
  split_ifs
  · rw [ha]; exact at' _ _ (by rw [hcol]; split_ifs <;> dsimp only <;> omega)
  · rw [hb]; exact at' _ _ (by rw [hcol]; split_ifs <;> dsimp only <;> omega)
  · rw [hc]; exact at' _ _ (by rw [hcol]; split_ifs <;> dsimp only <;> omega)
  · rw [hd]; exact at' _ _ (by rw [hcol]; split_ifs <;> dsimp only <;> omega)
  · rw [he]; exact at' _ _ (by rw [hcol]; split_ifs <;> dsimp only <;> omega)
  · rw [hf]; exact at' _ _ (by rw [hcol]; split_ifs <;> dsimp only <;> omega)
  · rw [hg]; exact at' _ _ (by rw [hcol]; split_ifs <;> dsimp only <;> omega)

end concat

/-- The gate columns, before the padding. -/
theorem gate_slice (w : FVec Ideal S1x1024x2848 .f32) (k : Fin 1024) (i : Fin 32) :
    extractStridedSlice S1024x32 ![0, 2816] (shapeCast S1024x2848 w shapeCasts_S1x1024x2848_S1024x2848) slices_S1024x2848_S1024x32_0_2816 (ix2 k i)
      = w (ix3 0 k ⟨2816 + i.val, by omega⟩) := by
  pointwise

theorem bias_reshape (b : FVec Ideal S1x4x8 .f32) (i : Fin 32) :
    shapeCast S1x32 (shapeCast S4x8 b shapeCasts_S1x4x8_S4x8) shapeCasts_S4x8_S1x32 (ix2 0 i)
      = b (ix3 0 ⟨i.val / 8, by omega⟩ ⟨i.val % 8, by omega⟩) := by
  pointwise

/-- The gate weights padded to 128 columns. -/
theorem pad_cols (x : FVec Ideal S1024x32 .f32) (v : FVec Ideal S_ .f32) (k : Fin 1024) (j : Fin 128) :
    pad S1024x128 ![0, 0] ![0, 96] ![0, 0] x v pads_S1024x32_S1024x128_000_0960 h_S_ (ix2 k j)
      = if h : j.val < 32 then x (ix2 k ⟨j.val, h⟩) else v (Shape.Idx.first h_S_) := by
  split_ifs with h
  · refine pad_apply_of_inside _ _ _ _ _ _ _ _ (ix2 k (⟨j.val, h⟩ : Fin 32)) fun a => ?_
    match a with
    | 0 => show k.val = 0 + k.val * 1; omega
    | 1 => show j.val = 0 + j.val * 1; omega
  · refine pad_apply_of_not_inside _ _ _ _ _ _ _ _ 1 fun hin => h ?_
    have h3 : (j.val - 0) / 1 < 32 := hin.2.2
    omega

/-- The gate biases padded to 128 columns. -/
theorem pad_row (x : FVec Ideal S1x32 .f32) (v : FVec Ideal S_ .f32) (j : Fin 128) :
    pad S1x128 ![0, 0] ![0, 96] ![0, 0] x v pads_S1x32_S1x128_000_0960 h_S_ (ix2 0 j)
      = if h : j.val < 32 then x (ix2 0 ⟨j.val, h⟩) else v (Shape.Idx.first h_S_) := by
  split_ifs with h
  · refine pad_apply_of_inside _ _ _ _ _ _ _ _ (ix2 0 (⟨j.val, h⟩ : Fin 32)) fun a => ?_
    match a with
    | 0 => rfl
    | 1 => show j.val = 0 + j.val * 1; omega
  · refine pad_apply_of_not_inside _ _ _ _ _ _ _ _ 1 fun hin => h ?_
    have h3 : (j.val - 0) / 1 < 32 := hin.2.2
    omega

/-- The padding is zero. -/
theorem padding_zero (i : S_.Idx) : (sitofp .f32 (constantI S_ 32 0#32) : FVec Ideal S_ .f32) i = (0 : EReal) := by
  show (((0#32 : BitVec 32).toInt : ℝ) : EReal) = 0
  simp

theorem bias_pad (b : FVec Ideal S1x4x8 .f32) (j : Fin 128) :
    pad S1x128 ![0, 0] ![0, 96] ![0, 0] (shapeCast S1x32 (shapeCast S4x8 b shapeCasts_S1x4x8_S4x8) shapeCasts_S4x8_S1x32)
        (sitofp .f32 (constantI S_ 32 0#32)) pads_S1x32_S1x128_000_0960 h_S_ (ix2 0 j)
      = if h : j.val < 32 then b (ix3 0 ⟨j.val / 8, by omega⟩ ⟨j.val % 8, by omega⟩) else (0 : EReal) := by
  rw [pad_row]
  split_ifs
  · exact bias_reshape _ _
  · exact padding_zero (Shape.Idx.first h_S_)

end Cert.Proj

end
-- ==== Proof.Proj.Reads.lean ====
/- The blocks the projection call reads, at the places of the arrays they are cut from. -/
module

public import proofs.«01_k».proof.Proof.Gen.Kernel2Ideal.Value
public import proofs.«01_k».proof.Proof.Proj.Concat
public import Idealize.ShloMosaic.Lib.Pipeline.ValueKit
public import Idealize.ShloMosaic.Lib.Pipeline.Covers

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Point `t` reads and writes the rows of block `t`, and the whole weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0] :=
  (by decide +kernel : ∀ t : Fin grid0.N, _)

/-- Row `r` of block `t`. -/
abbrev rowOf (t : Fin cfg0.N) (r : Fin 256) : Fin 65536 := ⟨256 * t.val + r.val, by have : t.val < 256 := t.isLt; omega⟩

theorem read_x (c : Dev nD) (t : Fin cfg0.N) (r : Fin 256) (d : Fin 1024) :
    iblk m c 0 t (ix2 r d) = (m ((c : Thread nD τ).loc main_arg0) : Vec Ideal S65536x1024 .f32) (ix2 (rowOf t r) d) := by
  unfold rowOf
  blk_ext [iblk, V, idx t]

theorem read_g (c : Dev nD) (t : Fin cfg0.N) (k : Fin 1024) :
    iblk m c 1 t (ix2 0 k) = (m ((c : Thread nD τ).loc main_arg1) : Vec Ideal S1x1024 .f32) (ix2 0 k) := by
  have e : iblk m c 1 t (ix2 0 k) = V m c main_v24 (ix2 0 k) := by blk_ext [iblk, idx t]
  rw [e]
  simp only [V, hostOps0, hostOps0_1, hostOps0_2, hostOps0_3, hostOps0_4, List.flatten_cons, List.flatten_nil, List.append_nil, List.cons_append, List.nil_append]
  entry_read
  pointwise

theorem read_gu (c : Dev nD) (t : Fin cfg0.N) (k : Fin 1024) (j : Fin 5632) :
    iblk m c 2 t (ix2 k j) = (m ((c : Thread nD τ).loc main_arg2) : Vec Ideal S1x1024x5632 .f32) (ix3 0 k j) := by
  have e : iblk m c 2 t (ix2 k j) = V m c main_v26 (ix2 k j) := by blk_ext [iblk, idx t]
  rw [e]
  simp only [V, hostOps0, hostOps0_1, hostOps0_2, hostOps0_3, hostOps0_4, List.flatten_cons, List.flatten_nil, List.append_nil, List.cons_append, List.nil_append]
  entry_read
  pointwise

theorem read_d (c : Dev nD) (t : Fin cfg0.N) (j : Fin 2816) (d : Fin 1024) :
    iblk m c 3 t (ix2 j d) = (m ((c : Thread nD τ).loc main_arg3) : Vec Ideal S1x2816x1024 .f32) (ix3 0 j d) := by
  have e : iblk m c 3 t (ix2 j d) = V m c main_v28 (ix2 j d) := by blk_ext [iblk, idx t]
  rw [e]
  simp only [V, hostOps0, hostOps0_1, hostOps0_2, hostOps0_3, hostOps0_4, List.flatten_cons, List.flatten_nil, List.append_nil, List.cons_append, List.nil_append]
  entry_read
  pointwise

theorem read_gm (c : Dev nD) (t : Fin cfg0.N) (k : Fin 1024) :
    iblk m c 4 t (ix2 0 k) = (m ((c : Thread nD τ).loc main_arg4) : Vec Ideal S1x1024 .f32) (ix2 0 k) := by
  have e : iblk m c 4 t (ix2 0 k) = V m c main_v30 (ix2 0 k) := by blk_ext [iblk, idx t]
  rw [e]
  simp only [V, hostOps0, hostOps0_1, hostOps0_2, hostOps0_3, hostOps0_4, List.flatten_cons, List.flatten_nil, List.append_nil, List.cons_append, List.nil_append]
  entry_read
  pointwise

end Cert.Proj

end
-- ==== Proof.Proj.Weights.lean ====
/- The blocks of the host-prepared weights that the projection call reads. -/
module

public import proofs.«01_k».proof.Proof.Gen.Kernel2Ideal.Value
public import proofs.«01_k».proof.Proof.Proj.Concat
public import proofs.«01_k».proof.Proof.Proj.Reads
public import Idealize.ShloMosaic.Lib.Pipeline.ValueKit
public import Idealize.ShloMosaic.Lib.Pipeline.Covers

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Ffn

variable (m : (ℓ : Loc nD τ sig) → Buf (Elt Ideal) ℓ)

theorem read_wg (c : Dev nD) (t : Fin cfg0.N) (k : Fin 1024) (j : Fin 128) :
    iblk m c 6 t (ix2 k j) = if h : j.val < 32 then (m ((c : Thread nD τ).loc main_arg5) : Vec Ideal S1x1024x2848 .f32) (ix3 0 k ⟨2816 + j.val, by omega⟩)
      else (0 : EReal) := by
  have e : iblk m c 6 t (ix2 k j) = V m c main_v19 (ix2 k j) := by blk_ext [iblk, idx t]
  rw [e]
  simp only [V, hostOps0, hostOps0_1, hostOps0_2, hostOps0_3, hostOps0_4, List.flatten_cons, List.flatten_nil, List.append_nil, List.cons_append, List.nil_append]
  entry_read
  refine (pad_cols _ _ k j).trans ?_
  split_ifs
  · exact gate_slice _ k _
  · exact padding_zero (Shape.Idx.first h_S_)

theorem read_bg (c : Dev nD) (t : Fin cfg0.N) (j : Fin 128) :
    iblk m c 7 t (ix2 0 j) = if h : j.val < 32 then (m ((c : Thread nD τ).loc main_arg6) : Vec Ideal S1x4x8 .f32) (ix3 0 ⟨j.val / 8, by omega⟩ ⟨j.val % 8, by omega⟩)
      else (0 : EReal) := by
  have e : iblk m c 7 t (ix2 0 j) = V m c main_v22 (ix2 0 j) := by blk_ext [iblk, idx t]
  rw [e]
  simp only [V, hostOps0, hostOps0_1, hostOps0_2, hostOps0_3, hostOps0_4, List.flatten_cons, List.flatten_nil, List.append_nil, List.cons_append, List.nil_append]
  entry_read
  exact bias_pad (m ((c : Thread nD τ).loc main_arg6)) j

/-- The host operations after the reordering of the columns leave the reordered weights alone. -/
theorem win_kept (G : Valuation τ sig (Elt Ideal)) :
    StableHlo.after ((hostOps0 : List (HloOp τ sig (Elt Ideal))).drop 18 ++ (hostOps0_1 ++ (hostOps0_2 ++ (hostOps0_3 ++ hostOps0_4)))) G (Proc.devRef .tc main_v17)
      = G (Proc.devRef .tc main_v17) :=
  StableHlo.after_of_forall_not_mem (b := Proc.devRef .tc main_v17) _ _ (List.forall_iff_forall_mem.mp (by
    simp only [hostOps0, hostOps0_1, hostOps0_2, hostOps0_3, hostOps0_4, List.drop_succ_cons, List.drop_zero, List.cons_append, List.nil_append, List.append_nil,
      List.Forall, StableHlo.nullary_writes, StableHlo.unary_writes, StableHlo.binary_writes, StableHlo.reshape_writes, Finset.mem_singleton]
    repeat' apply And.intro
    all_goals exact StableHlo.devRef_ne_of_ne (by decide)))

/-- The contents after the seven slices of the input weights. -/
def sliced (c : Dev nD) : Valuation τ sig (Elt Ideal) :=
  StableHlo.after ((hostOps0 : List (HloOp τ sig (Elt Ideal))).take 16) fun b => m (c, b)

theorem win_eq (c : Dev nD) :
    V m c main_v17 = truncf (F := Ideal) .bf16 (concatenate S1024x2816 1 [⟨S1024x512, (sliced m c (Proc.devRef .tc main_v7) : FVec Ideal S1024x512 .f32)⟩,
      ⟨S1024x512, (sliced m c (Proc.devRef .tc main_v9) : FVec Ideal S1024x512 .f32)⟩, ⟨S1024x512, (sliced m c (Proc.devRef .tc main_v11) : FVec Ideal S1024x512 .f32)⟩,
      ⟨S1024x512, (sliced m c (Proc.devRef .tc main_v13) : FVec Ideal S1024x512 .f32)⟩, ⟨S1024x512, (sliced m c (Proc.devRef .tc main_v1) : FVec Ideal S1024x512 .f32)⟩,
      ⟨S1024x128, (sliced m c (Proc.devRef .tc main_v3) : FVec Ideal S1024x128 .f32)⟩, ⟨S1024x128, (sliced m c (Proc.devRef .tc main_v5) : FVec Ideal S1024x128 .f32)⟩]
      concatenates_S1024x512_S1024x512_S1024x512_S1024x512_S1024x512_S1024x128_S1024x128_S1024x2816_d1) bitsLt_bf16_f32 := by
  refine (win_kept (StableHlo.after (((hostOps0 : List (HloOp τ sig (Elt Ideal))).drop 16).take 2) (sliced m c))).trans ?_
  generalize sliced m c = G
  simp only [hostOps0, List.drop_succ_cons, List.drop_zero, List.take_succ_cons, List.take_zero, StableHlo.after_cons, StableHlo.after_nil]
  rw [StableHlo.unary_result, StableHlo.nary_result]
  rfl

/-- A head column of the reordered input weights. -/
theorem read_win (c : Dev nD) (t : Fin cfg0.N) (k : Fin 1024) (j : Fin 2816) :
    iblk m c 5 t (ix2 k j) = (m ((c : Thread nD τ).loc main_arg5) : Vec Ideal S1x1024x2848 .f32) (ix3 0 k (headCol j)) := by
  have e : iblk m c 5 t (ix2 k j) = V m c main_v17 (ix2 k j) := by blk_ext [iblk, idx t]
  rw [e, win_eq]
  refine concat_cols _ _ _ _ _ _ _ k (fun j => (m ((c : Thread nD τ).loc main_arg5) : Vec Ideal S1x1024x2848 .f32) (ix3 0 k j)) ?_ ?_ ?_ ?_ ?_ ?_ ?_ j
  all_goals
    intro i
    simp only [sliced, hostOps0, List.take_succ_cons, List.take_zero]
    entry_read
    pointwise

end Cert.Proj

end
-- ==== Proof.Proj.Array.lean ====
/- The projection call's three result arrays: every entry, from the arrays it reads. -/
module

public import proofs.«01_k».proof.Proof.Proj.Payload
public import proofs.«01_k».proof.Proof.Proj.Weights

@[expose] public section

set_option maxRecDepth 16384

noncomputable section

namespace Cert.Proj

open Idealize.ShloMosaic Idealize.ShloMosaic.TcCoe Idealize.SL.Sem
open Idealize.ShloMosaic.Pipeline (Dat)
open Cert.Kernel2Ideal Cert.Kernel2Ideal.Gen Cert.Ffn

variable (m : (ℓ : Loc nD τ sig) → Buf (Elt Ideal) ℓ)

section results

variable (x : Vec Ideal S65536x1024 .f32) (g : Vec Ideal S1x1024 .f32) (gu : Vec Ideal S1x1024x5632 .f32) (dn : Vec Ideal S1x2816x1024 .f32)
  (gm : Vec Ideal S1x1024 .f32) (w : Vec Ideal S1x1024x2848 .f32) (b : Vec Ideal S1x4x8 .f32)

/-- A row after the first feed-forward. -/
abbrev fed (i : Fin 65536) : Fin 1024 → EReal :=
  half (fun k => x (ix2 i k)) (fun k => g (ix2 0 k)) (fun k j => gu (ix3 0 k j)) (fun j d => dn (ix3 0 j d))

/-- The row's norm before the projection. -/
abbrev fedNorm (i : Fin 65536) : Fin 1024 → EReal := norm (fed x g gu dn i) (fun k => gm (ix2 0 k))

/-- The array of rows after the feed-forward. -/
def rows : Vec Ideal S65536x1024 .f32 := fun i => fed x g gu dn (i 0) (i 1)

/-- The array of head columns. -/
def heads : Vec Ideal S65536x2816 .bf16 := fun i => head (fedNorm x g gu dn gm (i 0)) (fun k j => w (ix3 0 k j)) (i 1)

/-- The array of gate columns. -/
def gates : Vec Ideal S65536x128 .f32 := fun i =>
  gate (fedNorm x g gu dn gm (i 0)) (fun k j => w (ix3 0 k j)) (fun a e => b (ix3 0 a e)) (i 1)

end results

/-- A rectangle of columns of the gate and value weights, as the body loads it. -/
theorem ld_gu (c : Dev nD) (t : Fin cfg0.N) (o : ℕ) (ho : o + 1408 ≤ 5632) (p : ∀ a, (![0, o] : Fin 2 → ℕ) a + (![1024, 1408] : Fin 2 → ℕ) a ≤ S1024x5632.size a)
    (k : Fin 1024) (j : Fin 1408) :
    View.ld (iblk m c 2 t) (Rect.unit ![0, o] ![1024, 1408] p) (ix2 k j)
      = (m ((c : Thread nD τ).loc main_arg2) : Vec Ideal S1x1024x5632 .f32) (ix3 0 k ⟨o + j.val, by omega⟩) := by
  refine (View.ld_unit_apply_of (S := S1024x5632) (iblk m c 2 t) _ _ _ _ (ix2 k (⟨o + j.val, by omega⟩ : Fin 5632)) fun a => ?_).trans (read_gu m c t _ _)
  match a with
  | 0 => exact (Nat.zero_add _).symm
  | 1 => exact rfl

/-- A rectangle of rows of the down weights, as the body loads it. -/
theorem ld_d (c : Dev nD) (t : Fin cfg0.N) (o : ℕ) (ho : o + 1408 ≤ 2816) (p : ∀ a, (![o, 0] : Fin 2 → ℕ) a + (![1408, 1024] : Fin 2 → ℕ) a ≤ S2816x1024.size a)
    (j : Fin 1408) (d : Fin 1024) :
    View.ld (iblk m c 3 t) (Rect.unit ![o, 0] ![1408, 1024] p) (ix2 j d)
      = (m ((c : Thread nD τ).loc main_arg3) : Vec Ideal S1x2816x1024 .f32) (ix3 0 ⟨o + j.val, by omega⟩ d) := by
  refine (View.ld_unit_apply_of (S := S2816x1024) (iblk m c 3 t) _ _ _ _ (ix2 (⟨o + j.val, by omega⟩ : Fin 2816) d) fun a => ?_).trans (read_d m c t _ _)
  match a with
  | 0 => exact rfl
  | 1 => exact (Nat.zero_add _).symm

/-- A gate column as the body computes it, from the padded weights and biases. -/
theorem gate_eq (y : Fin 1024 → EReal) (W : Fin 1024 → Fin 2848 → EReal) (b : Fin 4 → Fin 8 → EReal) (j : Fin 128) :
    (∑ k, y k * (if h : j.val < 32 then W k ⟨2816 + j.val, by omega⟩ else 0))
      + (if h : j.val < 32 then b ⟨j.val / 8, by omega⟩ ⟨j.val % 8, by omega⟩ else 0) = gate y W b j := by
  unfold gate
  split_ifs with h
  · rfl
  · simp only [mul_zero, Finset.sum_const_zero, add_zero]

section body

variable (c : Dev nD) (t : Fin cfg0.N) (r : Fin 256)

abbrev xRow : Fin 1024 → EReal := fun k => (m ((c : Thread nD τ).loc main_arg0) : Vec Ideal S65536x1024 .f32) (ix2 (rowOf t r) k)

abbrev gains : Fin 1024 → EReal := fun k => (m ((c : Thread nD τ).loc main_arg1) : Vec Ideal S1x1024 .f32) (ix2 0 k)

abbrev guRows : Fin 1024 → Fin 5632 → EReal := fun k j => (m ((c : Thread nD τ).loc main_arg2) : Vec Ideal S1x1024x5632 .f32) (ix3 0 k j)

abbrev downRows : Fin 2816 → Fin 1024 → EReal := fun j d => (m ((c : Thread nD τ).loc main_arg3) : Vec Ideal S1x2816x1024 .f32) (ix3 0 j d)

abbrev gainsMix : Fin 1024 → EReal := fun k => (m ((c : Thread nD τ).loc main_arg4) : Vec Ideal S1x1024 .f32) (ix2 0 k)

abbrev inRows : Fin 1024 → Fin 2848 → EReal := fun k j => (m ((c : Thread nD τ).loc main_arg5) : Vec Ideal S1x1024x2848 .f32) (ix3 0 k j)

abbrev biases : Fin 4 → Fin 8 → EReal := fun a e => (m ((c : Thread nD τ).loc main_arg6) : Vec Ideal S1x4x8 .f32) (ix3 0 a e)

abbrev fedRow : Fin 1024 → EReal := half (xRow m c t r) (gains m c) (guRows m c) (downRows m c)

theorem norm_row (d : Fin 1024) : k0_pay1 (iblk m c 0 t) (iblk m c 1 t) (ix2 r d) = norm (xRow m c t r) (gains m c) d := by
  rw [pay1_apply]
  simp only [read_x, read_g]

/-- The first half of the feed-forward. -/
theorem first_row (d : Fin 1024) :
    k0_pay2 (iblk m c 0 t) (iblk m c 1 t) (View.ld (iblk m c 2 t) r0_2) (View.ld (iblk m c 2 t) r0_3) (View.ld (iblk m c 3 t) r0_4) (ix2 r d)
      = ∑ j : Fin 1408, unit (norm (xRow m c t r) (gains m c)) (guRows m c) ⟨j.val, by omega⟩ * downRows m c ⟨j.val, by omega⟩ d := by
  rw [pay2_apply]
  have e1 (k : Fin 1024) (j : Fin 1408) : View.ld (iblk m c 2 t) r0_2 (ix2 k j) = guRows m c k ⟨j.val, by omega⟩ :=
    (ld_gu m c t 0 (by omega) _ k j).trans (congrArg (guRows m c k) (Fin.ext (Nat.zero_add _)))
  have e2 (k : Fin 1024) (j : Fin 1408) : View.ld (iblk m c 2 t) r0_3 (ix2 k j) = guRows m c k ⟨2816 + j.val, by omega⟩ := ld_gu m c t 2816 (by omega) _ k j
  have e3 (j : Fin 1408) (d : Fin 1024) : View.ld (iblk m c 3 t) r0_4 (ix2 j d) = downRows m c ⟨j.val, by omega⟩ d :=
    (ld_d m c t 0 (by omega) _ j d).trans (congrArg (fun j => downRows m c j d) (Fin.ext (Nat.zero_add _)))
  simp only [norm_row, e1, e2, e3]
  rfl

/-- The row after the feed-forward, as the body computes it. -/
theorem fed_row (d : Fin 1024) :
    k0_pay5 (iblk m c 0 t)
      (k0_pay2 (iblk m c 0 t) (iblk m c 1 t) (View.ld (iblk m c 2 t) r0_2) (View.ld (iblk m c 2 t) r0_3) (View.ld (iblk m c 3 t) r0_4))
      (k0_pay3 (iblk m c 0 t) (iblk m c 1 t) (View.ld (iblk m c 2 t) r0_6)) (k0_pay4 (iblk m c 0 t) (iblk m c 1 t) (View.ld (iblk m c 2 t) r0_5))
      (View.ld (iblk m c 3 t) r0_7) (ix2 r d) = fedRow m c t r d := by
  rw [pay5_apply, first_row, read_x]
  have e1 (k : Fin 1024) (j : Fin 1408) : View.ld (iblk m c 2 t) r0_5 (ix2 k j) = guRows m c k ⟨1408 + j.val, by omega⟩ :=
    ld_gu m c t 1408 (by omega) _ k j
  have e2 (k : Fin 1024) (j : Fin 1408) : View.ld (iblk m c 2 t) r0_6 (ix2 k j) = guRows m c k ⟨2816 + (1408 + j.val), by omega⟩ :=
    (ld_gu m c t 4224 (by omega) _ k j).trans (congrArg (guRows m c k) (Fin.ext (by show 4224 + j.val = 2816 + (1408 + j.val); omega)))
  have e3 (j : Fin 1408) (d : Fin 1024) : View.ld (iblk m c 3 t) r0_7 (ix2 j d) = downRows m c ⟨1408 + j.val, by omega⟩ d :=
    ld_d m c t 1408 (by omega) _ j d
  simp only [pay3_apply, pay4_apply, norm_row, e1, e2, e3]
  unfold fedRow half
  rw [ffn_halves]
  rfl

/-- The normed row after the feed-forward. -/
theorem fedNorm_row (d : Fin 1024) :
    k0_pay6 (iblk m c 0 t)
      (k0_pay2 (iblk m c 0 t) (iblk m c 1 t) (View.ld (iblk m c 2 t) r0_2) (View.ld (iblk m c 2 t) r0_3) (View.ld (iblk m c 3 t) r0_4))
      (k0_pay3 (iblk m c 0 t) (iblk m c 1 t) (View.ld (iblk m c 2 t) r0_6)) (k0_pay4 (iblk m c 0 t) (iblk m c 1 t) (View.ld (iblk m c 2 t) r0_5))
      (View.ld (iblk m c 3 t) r0_7) (iblk m c 4 t) (ix2 r d) = norm (fedRow m c t r) (gainsMix m c) d := by
  rw [pay6_apply]
  simp only [fed_row]
  exact congrArg (fun g => norm (fedRow m c t r) g d) (funext fun k => read_gm m c t k)

theorem head_row (j : Fin 2816) :
    k0_pay7 (iblk m c 0 t)
      (k0_pay2 (iblk m c 0 t) (iblk m c 1 t) (View.ld (iblk m c 2 t) r0_2) (View.ld (iblk m c 2 t) r0_3) (View.ld (iblk m c 3 t) r0_4))
      (k0_pay3 (iblk m c 0 t) (iblk m c 1 t) (View.ld (iblk m c 2 t) r0_6)) (k0_pay4 (iblk m c 0 t) (iblk m c 1 t) (View.ld (iblk m c 2 t) r0_5))
      (View.ld (iblk m c 3 t) r0_7) (iblk m c 4 t) (iblk m c 5 t) (ix2 r j)
      = head (norm (fedRow m c t r) (gainsMix m c)) (inRows m c) j := by
  rw [pay7_apply]
  refine Finset.sum_congr rfl fun k _ => ?_
  rw [fedNorm_row, read_win]

theorem gate_row (j : Fin 128) :
    k0_pay8 (iblk m c 0 t)
      (k0_pay2 (iblk m c 0 t) (iblk m c 1 t) (View.ld (iblk m c 2 t) r0_2) (View.ld (iblk m c 2 t) r0_3) (View.ld (iblk m c 3 t) r0_4))
      (k0_pay3 (iblk m c 0 t) (iblk m c 1 t) (View.ld (iblk m c 2 t) r0_6)) (k0_pay4 (iblk m c 0 t) (iblk m c 1 t) (View.ld (iblk m c 2 t) r0_5))
      (View.ld (iblk m c 3 t) r0_7) (iblk m c 4 t) (iblk m c 6 t) (iblk m c 7 t) (ix2 r j)
      = gate (norm (fedRow m c t r) (gainsMix m c)) (inRows m c) (biases m c) j := by
  rw [pay8_apply, ← gate_eq]
  refine congrArg₂ (fun a b : EReal => a + b) (Finset.sum_congr rfl fun k _ => ?_) (read_bg m c t j)
  rw [fedNorm_row, read_wg]

end body

variable (c : Dev nD)

theorem final_rows : (dats m 0 c).arrAt 8 (cfgs 0).N
    = rows (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ ((cfg0.win 8).covers_of_indexMap_surj rfl (by decide) fun β => ?_) fun t _ y => ?_
  · have h0 : (β 0).val < 256 := (β 0).isLt
    have h1 : (β 1).val < 1 := (β 1).isLt
    refine ⟨grid0.coords (⟨(β 0).val, h0⟩ : Fin cfg0.N), fun a => ?_⟩
    refine (congrFun (idx ⟨(β 0).val, h0⟩).2.2.2.2.2.2.2.2.1 a).trans ?_
    match a with
    | 0 => rfl
    | 1 => show 0 = (β 1).val; omega
  · blk_simp
    rw [after0_8]
    unfold out0_8 k0_pay9 k0_pay10 k0_pay11
    frame_out
    have hy : y = ix2 (⟨(y 0).val, (y 0).isLt⟩ : Fin 256) (⟨(y 1).val, (y 1).isLt⟩ : Fin 1024) := by blk_ext
    refine (congrArg _ hy).trans ((fed_row m c t _ _).trans ?_)
    have e : ((cfg0.win 8).blk t).view.emb y = ix2 (rowOf t ⟨(y 0).val, (y 0).isLt⟩) (⟨(y 1).val, (y 1).isLt⟩ : Fin 1024) := by
      unfold rowOf
      blk_ext [idx t]
    refine Eq.trans ?_ (congrArg _ e.symm)
    rfl

theorem final_heads : (dats m 0 c).arrAt 9 (cfgs 0).N
    = heads (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ ((cfg0.win 9).covers_of_indexMap_surj rfl (by decide) fun β => ?_) fun t _ y => ?_
  · have h0 : (β 0).val < 256 := (β 0).isLt
    have h1 : (β 1).val < 1 := (β 1).isLt
    refine ⟨grid0.coords (⟨(β 0).val, h0⟩ : Fin cfg0.N), fun a => ?_⟩
    refine (congrFun (idx ⟨(β 0).val, h0⟩).2.2.2.2.2.2.2.2.2.1 a).trans ?_
    match a with
    | 0 => rfl
    | 1 => show 0 = (β 1).val; omega
  · blk_simp
    rw [after0_9]
    unfold out0_9 k0_pay9 k0_pay10 k0_pay11
    frame_out
    have hy : y = ix2 (⟨(y 0).val, (y 0).isLt⟩ : Fin 256) (⟨(y 1).val, (y 1).isLt⟩ : Fin 2816) := by blk_ext
    refine (congrArg _ hy).trans ((head_row m c t _ _).trans ?_)
    have e : ((cfg0.win 9).blk t).view.emb y = ix2 (rowOf t ⟨(y 0).val, (y 0).isLt⟩) (⟨(y 1).val, (y 1).isLt⟩ : Fin 2816) := by
      unfold rowOf
      blk_ext [idx t]
    refine Eq.trans ?_ (congrArg _ e.symm)
    rfl

theorem final_gates : (dats m 0 c).arrAt 10 (cfgs 0).N
    = gates (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 10 _ ((cfg0.win 10).covers_of_indexMap_surj rfl (by decide) fun β => ?_) fun t _ y => ?_
  · have h0 : (β 0).val < 256 := (β 0).isLt
    have h1 : (β 1).val < 1 := (β 1).isLt
    refine ⟨grid0.coords (⟨(β 0).val, h0⟩ : Fin cfg0.N), fun a => ?_⟩
    refine (congrFun (idx ⟨(β 0).val, h0⟩).2.2.2.2.2.2.2.2.2.2 a).trans ?_
    match a with
    | 0 => rfl
    | 1 => show 0 = (β 1).val; omega
  · blk_simp
    rw [after0_10]
    unfold out0_10 k0_pay9 k0_pay10 k0_pay11
    frame_out
    have hy : y = ix2 (⟨(y 0).val, (y 0).isLt⟩ : Fin 256) (⟨(y 1).val, (y 1).isLt⟩ : Fin 128) := by blk_ext
    refine (congrArg _ hy).trans ((gate_row m c t _ _).trans ?_)
    have e : ((cfg0.win 10).blk t).view.emb y = ix2 (rowOf t ⟨(y 0).val, (y 0).isLt⟩) (⟨(y 1).val, (y 1).isLt⟩ : Fin 128) := by
      unfold rowOf
      blk_ext [idx t]
    refine Eq.trans ?_ (congrArg _ e.symm)
    rfl

end Cert.Proj

end
-- ==== Proof.Proj.Reference.lean ====
/- The reference of the projection call, row by row. -/
module

public import proofs.«01_k».proof.Proof.Gen.Reference2Ideal.Read
public import proofs.«01_k».proof.Proof.Ffn.Rows
public import Idealize.ShloMosaic.Lib.Pointwise
public import Idealize.ShloMosaic.Lib.Pipeline.ValueKit

@[expose] public section

set_option maxRecDepth 16384

noncomputable section

namespace Cert.Proj.Ref

open Cert.Reference2Ideal Cert.Reference2Ideal.Read Cert.Ffn Idealize.ShloMosaic

variable (x : (⟨S65536x1024, .f32⟩ : BufTy).Contents (Elt Ideal)) (g : (⟨S1x1024, .f32⟩ : BufTy).Contents (Elt Ideal))
  (gu : (⟨S1x1024x5632, .f32⟩ : BufTy).Contents (Elt Ideal)) (dn : (⟨S1x2816x1024, .f32⟩ : BufTy).Contents (Elt Ideal))
  (gm : (⟨S1x1024, .f32⟩ : BufTy).Contents (Elt Ideal)) (w : (⟨S1x1024x2848, .f32⟩ : BufTy).Contents (Elt Ideal))
  (b : (⟨S1x4x8, .f32⟩ : BufTy).Contents (Elt Ideal))

theorem norm_ref (r : Fin 65536) (d : Fin 1024) :
    val_main_v13 (F := Ideal) x g (ix2 r d) = norm (fun k => x (ix2 r k)) (fun k => g (ix2 0 k)) d := by
  rw [val_main_v13_apply, val_main_v10_apply, val_main_v9_apply, val_main_v8_apply, val_main_v7_apply, val_main_v5_apply, val_main_v3_apply,
    val_main_v2_apply, val_main_v4_apply, val_main_v6_apply, val_main_v12_apply, val_main_v11_apply, val_main_v0_apply, val_main_cst_apply,
    val_main_cst_0_apply, val_main_cst_1_apply]
  simp only [val_main_v1_apply]
  have e (k : Fin 1024) : idx_main_v2 (idx_main_v3 (idx_main_v9 (ix2 r d))) k = ix2 r k := by blk_ext
  have eg : idx_main_v0 (idx_main_v11 (idx_main_v12 (ix2 r d))) = ix2 0 d := by blk_ext
  simp only [e, eg]
  show (x (ix2 r d) : EReal) * Ideal.rsqrt (Ideal.div (Ideal.ofBits .f32 0x00000000#32 + ∑ k, (x (ix2 r k) : EReal) * x (ix2 r k)) _ + _) * g (ix2 0 d) = _
  rw [zero_bits, zero_add]
  rfl

theorem gate_ref (r : Fin 65536) (j : Fin 5632) :
    val_main_v16 (F := Ideal) x g gu (ix2 r j) = ∑ k : Fin 1024, (val_main_v13 (F := Ideal) x g (ix2 r k) : EReal) * gu (ix3 0 k j) := by
  rw [val_main_v16_apply]
  refine Finset.sum_congr rfl fun k _ => ?_
  have e1 : lidx_main_v16 (ix2 r j) k = ix2 r k := by blk_ext
  have e2 : idx_main_v14 (ridx_main_v16 (ix2 r j) k) = ix3 0 k j := by blk_ext
  rw [val_main_v14_apply, e1, e2]

theorem unit_ref (r : Fin 65536) (j : Fin 2816) :
    val_main_v20 (F := Ideal) x g gu (ix2 r j)
      = unit (fun k => val_main_v13 (F := Ideal) x g (ix2 r k)) (fun k j => gu (ix3 0 k j)) j := by
  rw [val_main_v20_apply, val_main_v19_apply, val_main_call0_v5_apply, val_main_call0_v4_apply, val_main_call0_v3_apply, val_main_call0_v2_apply,
    val_main_call0_v1_apply, val_main_call0_v0_apply, val_main_v17_apply, val_main_v18_apply, val_main_call0_cst_apply, val_main_call0_cst_0_apply]
  have e1 : idx_main_v17 (ix2 r j) = ix2 r (⟨j.val, by omega⟩ : Fin 5632) := by blk_ext
  have e2 : idx_main_v18 (ix2 r j) = ix2 r (⟨2816 + j.val, by omega⟩ : Fin 5632) := by blk_ext
  rw [e1, e2, gate_ref, gate_ref]
  exact congrArg (fun x : EReal => _ * x * _) (logistic_eq _)

/-- The reference's rows after the feed-forward. -/
theorem rows_ref (r : Fin 65536) (d : Fin 1024) :
    val_main_v24 (F := Ideal) x g gu dn (ix2 r d)
      = half (fun k => x (ix2 r k)) (fun k => g (ix2 0 k)) (fun k j => gu (ix3 0 k j)) (fun j d => dn (ix3 0 j d)) d := by
  rw [val_main_v24_apply, val_main_v23_apply, val_main_v22_apply, val_main_v21_apply, val_main_cst_2_apply]
  refine congrArg (fun x : EReal => (_ : EReal) + (_ : EReal) * x) (Finset.sum_congr rfl fun j _ => ?_)
  have e1 : lidx_main_v21 (ix2 r d) j = ix2 r j := by blk_ext
  have e2 : idx_main_v15 (ridx_main_v21 (ix2 r d) j) = ix3 0 j d := by blk_ext
  rw [val_main_v15_apply, e1, e2, unit_ref]
  simp only [norm_ref]

theorem norm2_ref (r : Fin 65536) (d : Fin 1024) :
    val_main_v38 (F := Ideal) x g gu dn gm (ix2 r d)
      = norm (fun k => val_main_v24 (F := Ideal) x g gu dn (ix2 r k)) (fun k => gm (ix2 0 k)) d := by
  rw [val_main_v38_apply, val_main_v35_apply, val_main_v34_apply, val_main_v33_apply, val_main_v32_apply, val_main_v30_apply, val_main_v28_apply,
    val_main_v27_apply, val_main_v29_apply, val_main_v31_apply, val_main_v37_apply, val_main_v36_apply, val_main_v25_apply, val_main_cst_3_apply,
    val_main_cst_4_apply, val_main_cst_5_apply]
  simp only [val_main_v26_apply]
  generalize val_main_v24 (F := Ideal) x g gu dn = y
  have e (k : Fin 1024) : idx_main_v27 (idx_main_v28 (idx_main_v34 (ix2 r d))) k = ix2 r k := by blk_ext
  have eg : idx_main_v25 (idx_main_v36 (idx_main_v37 (ix2 r d))) = ix2 0 d := by blk_ext
  simp only [e, eg]
  show (y (ix2 r d) : EReal) * Ideal.rsqrt (Ideal.div (Ideal.ofBits .f32 0x00000000#32 + ∑ k, (y (ix2 r k) : EReal) * y (ix2 r k)) _ + _) * gm (ix2 0 d) = _
  rw [zero_bits, zero_add]
  rfl

/-- The normed row that the reference projects. -/
abbrev fedNorm (r : Fin 65536) : Fin 1024 → EReal :=
  norm (half (fun k => x (ix2 r k)) (fun k => g (ix2 0 k)) (fun k j => gu (ix3 0 k j)) (fun j d => dn (ix3 0 j d))) (fun k => gm (ix2 0 k))

theorem proj_ref (r : Fin 65536) (j : Fin 2848) :
    val_main_v40 (F := Ideal) x g gu dn gm w (ix2 r j) = ∑ k : Fin 1024, fedNorm x g gu dn gm r k * w (ix3 0 k j) := by
  rw [val_main_v40_apply]
  refine Finset.sum_congr rfl fun k _ => ?_
  have e1 : lidx_main_v40 (ix2 r j) k = ix2 r k := by blk_ext
  have e2 : idx_main_v39 (ridx_main_v40 (ix2 r j) k) = ix3 0 k j := by blk_ext
  rw [val_main_v39_apply, e1, e2, norm2_ref]
  simp only [rows_ref]

theorem heads_split (r : Fin 65536) (j : Fin 2816) :
    val_main_v43 (F := Ideal) x g gu dn gm w (ix2 r j)
      = if h : j.val < 2048 then val_main_v41 (F := Ideal) x g gu dn gm w (ix2 r (⟨j.val, h⟩ : Fin 2048))
        else val_main_v42 (F := Ideal) x g gu dn gm w (ix2 r (⟨j.val - 2048, by omega⟩ : Fin 768)) := by
  pointwise [val_main_v43]

/-- The reference's head columns. -/
theorem heads_ref (r : Fin 65536) (j : Fin 2816) :
    val_main_v44 (F := Ideal) x g gu dn gm w (ix2 r j) = head (fedNorm x g gu dn gm r) (fun k j => w (ix3 0 k j)) j := by
  rw [val_main_v44_apply]
  refine (heads_split x g gu dn gm w r j).trans ?_
  unfold head headCol
  by_cases h : j.val < 2048
  · simp only [dif_pos h]
    rw [val_main_v41_apply]
    have e : idx_main_v41 (ix2 r (⟨j.val, h⟩ : Fin 2048)) = ix2 r (⟨768 + j.val, by omega⟩ : Fin 2848) := by blk_ext
    rw [e, proj_ref]
  · simp only [dif_neg h]
    rw [val_main_v42_apply]
    have e : idx_main_v42 (ix2 r (⟨j.val - 2048, by omega⟩ : Fin 768)) = ix2 r (⟨j.val - 2048, by omega⟩ : Fin 2848) := by blk_ext
    rw [e, proj_ref]

theorem gates_split (r : Fin 65536) (j : Fin 128) :
    val_main_v51 (F := Ideal) x g gu dn gm w b (ix2 r j)
      = if h : j.val < 32 then val_main_v49 (F := Ideal) x g gu dn gm w b (ix2 r (⟨j.val, h⟩ : Fin 32))
        else val_main_v50 (F := Ideal) (ix2 r (⟨j.val - 32, by omega⟩ : Fin 96)) := by
  pointwise [val_main_v51]

/-- The reference's gate columns. -/
theorem gates_ref (r : Fin 65536) (j : Fin 128) :
    val_main_v51 (F := Ideal) x g gu dn gm w b (ix2 r j)
      = gate (fedNorm x g gu dn gm r) (fun k j => w (ix3 0 k j)) (fun a e => b (ix3 0 a e)) j := by
  rw [gates_split]
  unfold gate
  by_cases h : j.val < 32
  · rw [dif_pos h, dif_pos h, val_main_v49_apply, val_main_v45_apply, val_main_v48_apply, val_main_v47_apply, val_main_v46_apply]
    have e1 : idx_main_v45 (ix2 r (⟨j.val, h⟩ : Fin 32)) = ix2 r (⟨2816 + j.val, by omega⟩ : Fin 2848) := by blk_ext
    have e2 : idx_main_v46 (idx_main_v47 (idx_main_v48 (ix2 r (⟨j.val, h⟩ : Fin 32)))) = ix3 0 (⟨j.val / 8, by omega⟩ : Fin 4) (⟨j.val % 8, by omega⟩ : Fin 8) := by
      blk_ext
    rw [e1, e2, proj_ref]
    rfl
  · rw [dif_neg h, dif_neg h, val_main_v50_apply, val_main_cst_6_apply]
    exact zero_bits

end Cert.Proj.Ref

end
-- ==== Proof.Proj.Algebraic.lean ====
/- The projection call's algebraic claim. -/
module

public import proofs.«01_k».proof.Defs
public import proofs.«01_k».proof.Proof.Proj.Array
public import proofs.«01_k».proof.Proof.Proj.Reference
public import proofs.«01_k».proof.Proof.Gen.Reference2Ideal.Run
public import Idealize.ShloMosaic.Adequacy
public import Idealize.ShloMosaic.Init

@[expose] public section

set_option maxRecDepth 16384

noncomputable section

namespace Cert.Proj

open Idealize.ShloMosaic Idealize.ShloMosaic.TcCoe Idealize.SL.Sem

/-- The fused feed-forward and projection call and the plain one end with the same rows, heads and gates. -/
theorem algebraic : Cert.algebraic_Kernel2Ideal_Reference2Ideal := by
  pair_intro
  · run_from Cert.Kernel2Ideal.Value.run_blocks m g
  · run_from Cert.Reference2Ideal.Value.run m' g'
    · refine (Cert.Reference2Ideal.Read.val_main_v24_eq _ _ _ _).trans ?_
      rw [final_rows m c]
      funext i
      have hi : i = ix2 (i 0) (i 1) := by blk_ext
      exact (congrArg _ hi).trans (Ref.rows_ref _ _ _ _ (i 0) (i 1))
    · refine (Cert.Reference2Ideal.Read.val_main_v44_eq m' c).trans ?_
      rw [(hagree c).1, (hagree c).2.1, (hagree c).2.2.1, (hagree c).2.2.2.1, (hagree c).2.2.2.2.1, (hagree c).2.2.2.2.2.1, final_heads m c]
      funext i
      have hi : i = ix2 (i 0) (i 1) := by blk_ext
      exact (congrArg _ hi).trans (Ref.heads_ref _ _ _ _ _ _ (i 0) (i 1))
    · refine (Cert.Reference2Ideal.Read.val_main_v51_eq m' c).trans ?_
      rw [(hagree c).1, (hagree c).2.1, (hagree c).2.2.1, (hagree c).2.2.2.1,
        (hagree c).2.2.2.2.1, (hagree c).2.2.2.2.2.1, (hagree c).2.2.2.2.2.2, final_gates m c]
      funext i
      have hi : i = ix2 (i 0) (i 1) := by blk_ext
      exact (congrArg _ hi).trans (Ref.gates_ref _ _ _ _ _ _ _ (i 0) (i 1))

end Cert.Proj

end
-- ==== Proof.Out.Payload.lean ====
/- What the output call's body computes from its blocks, an entry at a time. -/
module

public import proofs.«01_k».proof.Proof.Gen.Kernel3Ideal.Skeleton
public import proofs.«01_k».proof.Proof.Ffn.Rows
public import Idealize.ShloMosaic.Lib.Pointwise

@[expose] public section

set_option maxRecDepth 16384

noncomputable section

namespace Cert.Out

open Cert.Kernel3Ideal Cert.Kernel3Ideal.Gen Cert.Ffn Idealize.ShloMosaic

theorem pay2_apply (h : Vec Ideal S256x1024 .f32) (a : Vec Ideal S256x512 .bf16) (wa : Vec Ideal S512x1024 .bf16)
    (b : Vec Ideal S256x512 .bf16) (wb : Vec Ideal S512x1024 .bf16) (r : Fin 256) (d : Fin 1024) :
    k0_pay2 h a wa b wb (ix2 r d)
      = (h (ix2 r d) : EReal) + (∑ k : Fin 512, (a (ix2 r k) : EReal) * wa (ix2 k d)) + ∑ k : Fin 512, (b (ix2 r k) : EReal) * wb (ix2 k d) := by
  pointwise [k0_pay2]

theorem pay3_apply (h : Vec Ideal S256x1024 .f32) (a : Vec Ideal S256x512 .bf16) (wa : Vec Ideal S512x1024 .bf16)
    (b : Vec Ideal S256x512 .bf16) (wb : Vec Ideal S512x1024 .bf16) (g : Vec Ideal S1x1024 .f32) (r : Fin 256) (d : Fin 1024) :
    k0_pay3 h a wa b wb g (ix2 r d) = norm (fun k => k0_pay2 h a wa b wb (ix2 r k)) (fun k => g (ix2 0 k)) d := by
  unfold k0_pay3
  generalize k0_pay2 h a wa b wb = x
  pointwise
  rfl

/-- A unit of the hidden layer from the blocks of its gate and value columns. -/
theorem pay4_apply (h : Vec Ideal S256x1024 .f32) (a : Vec Ideal S256x512 .bf16) (wa : Vec Ideal S512x1024 .bf16)
    (b : Vec Ideal S256x512 .bf16) (wb : Vec Ideal S512x1024 .bf16) (g : Vec Ideal S1x1024 .f32) (wg wu : Vec Ideal S1024x1408 .bf16)
    (r : Fin 256) (j : Fin 1408) :
    k0_pay4 h a wa b wb g wg wu (ix2 r j)
      = (∑ k : Fin 1024, (k0_pay3 h a wa b wb g (ix2 r k) : EReal) * wg (ix2 k j))
        * Ideal.logistic (∑ k : Fin 1024, (k0_pay3 h a wa b wb g (ix2 r k) : EReal) * wg (ix2 k j))
        * ∑ k : Fin 1024, (k0_pay3 h a wa b wb g (ix2 r k) : EReal) * wu (ix2 k j) := by
  unfold k0_pay4
  generalize k0_pay3 h a wa b wb g = x
  pointwise

/-- The stored entry. -/
theorem pay1_apply (h : FVec Ideal S256x1024 .f32) (y : FVec Ideal S256x1024 .bf16) (u : FVec Ideal S256x1408 .bf16)
    (d0 : Vec Ideal S1408x1024 .bf16) (wg wu : Vec Ideal S1024x1408 .bf16) (d1 : Vec Ideal S1408x1024 .bf16) (g : Vec Ideal S1x1024 .f32)
    (r : Fin 256) (d : Fin 1024) :
    k0_pay1 h y u d0 wg wu d1 g (ix2 r d)
      = norm (fun d => (h (ix2 r d) : EReal) + Ideal.ofBits .f32 0x3F000000#32 *
          ((∑ j : Fin 1408, (u (ix2 r j) : EReal) * d0 (ix2 j d))
            + ∑ j : Fin 1408, (∑ k : Fin 1024, (y (ix2 r k) : EReal) * wg (ix2 k j))
                * Ideal.logistic (∑ k : Fin 1024, (y (ix2 r k) : EReal) * wg (ix2 k j))
                * (∑ k : Fin 1024, (y (ix2 r k) : EReal) * wu (ix2 k j)) * d1 (ix2 j d)))
        (fun k => g (ix2 0 k)) d := by
  unfold k0_pay1
  pointwise
  rfl

end Cert.Out

end
-- ==== Proof.Out.Body.lean ====
/- What the output call's body writes, from its blocks: one row of the mix, the feed-forward half and the final norm. -/
module

public import proofs.«01_k».proof.Proof.Out.Payload
public import proofs.«01_k».proof.Proof.Gen.Kernel3Ideal.Value
public import Idealize.ShloMosaic.Lib.Pipeline.ValueKit

@[expose] public section

set_option maxRecDepth 16384

noncomputable section

namespace Cert.Out

open Cert.Kernel3Ideal Cert.Kernel3Ideal.Gen Cert.Ffn Idealize.ShloMosaic

/-- A result row from the rows and weights it is computed from. -/
abbrev outRow (h : Fin 1024 → EReal) (a b : Fin 512 → EReal) (w : Fin 1024 → Fin 1024 → EReal) (g : Fin 1024 → EReal)
    (gu : Fin 1024 → Fin 5632 → EReal) (dn : Fin 2816 → Fin 1024 → EReal) (gf : Fin 1024 → EReal) : Fin 1024 → EReal :=
  norm (half (mixed h a b w) g gu dn) gf

/-- A rectangle of rows of the output weights, as the body loads it. -/
theorem ld_w (x : Vec Ideal S1024x1024 .bf16) (o : ℕ) (ho : o + 512 ≤ 1024)
    (p : ∀ a, (![o, 0] : Fin 2 → ℕ) a + (![512, 1024] : Fin 2 → ℕ) a ≤ S1024x1024.size a) (k : Fin 512) (d : Fin 1024) :
    View.ld x (Rect.unit ![o, 0] ![512, 1024] p) (ix2 k d) = x (ix2 (⟨o + k.val, by omega⟩ : Fin 1024) d) := by
  refine View.ld_unit_apply_of (S := S1024x1024) x _ _ _ _ (ix2 (⟨o + k.val, by omega⟩ : Fin 1024) d) fun a => ?_
  match a with
  | 0 => exact rfl
  | 1 => exact (Nat.zero_add _).symm

/-- A rectangle of columns of the gate and value weights, as the body loads it. -/
theorem ld_gu (x : Vec Ideal S1024x5632 .bf16) (o : ℕ) (ho : o + 1408 ≤ 5632)
    (p : ∀ a, (![0, o] : Fin 2 → ℕ) a + (![1024, 1408] : Fin 2 → ℕ) a ≤ S1024x5632.size a) (k : Fin 1024) (j : Fin 1408) :
    View.ld x (Rect.unit ![0, o] ![1024, 1408] p) (ix2 k j) = x (ix2 k (⟨o + j.val, by omega⟩ : Fin 5632)) := by
  refine View.ld_unit_apply_of (S := S1024x5632) x _ _ _ _ (ix2 k (⟨o + j.val, by omega⟩ : Fin 5632)) fun a => ?_
  match a with
  | 0 => exact (Nat.zero_add _).symm
  | 1 => exact rfl

/-- A rectangle of rows of the down weights, as the body loads it. -/
theorem ld_d (x : Vec Ideal S2816x1024 .bf16) (o : ℕ) (ho : o + 1408 ≤ 2816)
    (p : ∀ a, (![o, 0] : Fin 2 → ℕ) a + (![1408, 1024] : Fin 2 → ℕ) a ≤ S2816x1024.size a) (j : Fin 1408) (d : Fin 1024) :
    View.ld x (Rect.unit ![o, 0] ![1408, 1024] p) (ix2 j d) = x (ix2 (⟨o + j.val, by omega⟩ : Fin 2816) d) := by
  refine View.ld_unit_apply_of (S := S2816x1024) x _ _ _ _ (ix2 (⟨o + j.val, by omega⟩ : Fin 2816) d) fun a => ?_
  match a with
  | 0 => exact rfl
  | 1 => exact (Nat.zero_add _).symm

variable (h : Vec Ideal S256x1024 .f32) (a b : Vec Ideal S256x512 .bf16) (w : Vec Ideal S1024x1024 .bf16) (g : Vec Ideal S1x1024 .f32)
  (gu : Vec Ideal S1024x5632 .bf16) (dn : Vec Ideal S2816x1024 .bf16) (gf : Vec Ideal S1x1024 .f32) (r : Fin 256)

/-- The mixed row of the blocks. -/
abbrev mixedRow : Fin 1024 → EReal := mixed (fun k => h (ix2 r k)) (fun k => a (ix2 r k)) (fun k => b (ix2 r k)) (fun k d => w (ix2 k d))

theorem mixed_row (d : Fin 1024) : k0_pay2 h a (View.ld w r0_2) b (View.ld w r0_3) (ix2 r d) = mixedRow h a b w r d := by
  rw [pay2_apply]
  have e1 (k : Fin 512) (d : Fin 1024) : View.ld w r0_2 (ix2 k d) = w (ix2 (⟨k.val, by omega⟩ : Fin 1024) d) :=
    (ld_w w 0 (by omega) _ k d).trans (congrArg (fun k => w (ix2 k d)) (Fin.ext (Nat.zero_add _)))
  have e2 (k : Fin 512) (d : Fin 1024) : View.ld w r0_3 (ix2 k d) = w (ix2 (⟨512 + k.val, by omega⟩ : Fin 1024) d) := ld_w w 512 (by omega) _ k d
  simp only [e1, e2]
  rfl

theorem norm_row (d : Fin 1024) :
    k0_pay3 h a (View.ld w r0_2) b (View.ld w r0_3) g (ix2 r d) = norm (mixedRow h a b w r) (fun k => g (ix2 0 k)) d := by
  rw [pay3_apply]
  simp only [mixed_row]

/-- The first half of the hidden units. -/
theorem unit_row (j : Fin 1408) :
    k0_pay4 h a (View.ld w r0_2) b (View.ld w r0_3) g (View.ld gu r0_5) (View.ld gu r0_6) (ix2 r j)
      = unit (norm (mixedRow h a b w r) (fun k => g (ix2 0 k))) (fun k j => gu (ix2 k j)) ⟨j.val, by omega⟩ := by
  rw [pay4_apply]
  have e1 (k : Fin 1024) : View.ld gu r0_5 (ix2 k j) = gu (ix2 k (⟨j.val, by omega⟩ : Fin 5632)) :=
    (ld_gu gu 0 (by omega) _ k j).trans (congrArg (fun j => gu (ix2 k j)) (Fin.ext (Nat.zero_add _)))
  have e2 (k : Fin 1024) : View.ld gu r0_6 (ix2 k j) = gu (ix2 k (⟨2816 + j.val, by omega⟩ : Fin 5632)) := ld_gu gu 2816 (by omega) _ k j
  simp only [norm_row, e1, e2]
  rfl

/-- What the body writes. -/
theorem body (d : Fin 1024) :
    k0_pay1 (k0_pay2 h a (View.ld w r0_2) b (View.ld w r0_3)) (k0_pay3 h a (View.ld w r0_2) b (View.ld w r0_3) g)
      (k0_pay4 h a (View.ld w r0_2) b (View.ld w r0_3) g (View.ld gu r0_5) (View.ld gu r0_6))
      (View.ld dn r0_7) (View.ld gu r0_8) (View.ld gu r0_9) (View.ld dn r0_10) gf (ix2 r d)
      = outRow (fun k => h (ix2 r k)) (fun k => a (ix2 r k)) (fun k => b (ix2 r k)) (fun k d => w (ix2 k d)) (fun k => g (ix2 0 k))
          (fun k j => gu (ix2 k j)) (fun j d => dn (ix2 j d)) (fun k => gf (ix2 0 k)) d := by
  rw [pay1_apply]
  have e1 (j : Fin 1408) (d : Fin 1024) : View.ld dn r0_7 (ix2 j d) = dn (ix2 (⟨j.val, by omega⟩ : Fin 2816) d) :=
    (ld_d dn 0 (by omega) _ j d).trans (congrArg (fun j => dn (ix2 j d)) (Fin.ext (Nat.zero_add _)))
  have e2 (j : Fin 1408) (d : Fin 1024) : View.ld dn r0_10 (ix2 j d) = dn (ix2 (⟨1408 + j.val, by omega⟩ : Fin 2816) d) :=
    ld_d dn 1408 (by omega) _ j d
  have e3 (k : Fin 1024) (j : Fin 1408) : View.ld gu r0_8 (ix2 k j) = gu (ix2 k (⟨1408 + j.val, by omega⟩ : Fin 5632)) :=
    ld_gu gu 1408 (by omega) _ k j
  have e4 (k : Fin 1024) (j : Fin 1408) : View.ld gu r0_9 (ix2 k j) = gu (ix2 k (⟨2816 + (1408 + j.val), by omega⟩ : Fin 5632)) :=
    (ld_gu gu 4224 (by omega) _ k j).trans
      (congrArg (fun j => gu (ix2 k j)) (Fin.ext (by show 4224 + j.val = 2816 + (1408 + j.val); omega)))
  simp only [mixed_row, norm_row, unit_row, e1, e2, e3, e4]
  refine congrArg (fun x => norm x _ d) (funext fun d => ?_)
  unfold half
  rw [ffn_halves]
  rfl

end Cert.Out

end
-- ==== Proof.Out.Reads.lean ====
/- The blocks the output call reads, at the places of the arrays they are cut from. -/
module

public import proofs.«01_k».proof.Proof.Gen.Kernel3Ideal.Value
public import Idealize.ShloMosaic.Lib.Pipeline.ValueKit
public import Idealize.ShloMosaic.Lib.Pipeline.Covers

@[expose] public section

set_option maxRecDepth 16384

noncomputable section

namespace Cert.Out

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Point `t` reads and writes the rows of block `t`, and the whole weights. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- Row `r` of block `t`. -/
abbrev rowOf (t : Fin cfg0.N) (r : Fin 256) : Fin 65536 := ⟨256 * t.val + r.val, by have : t.val < 256 := t.isLt; omega⟩

theorem read_h (c : Dev nD) (t : Fin cfg0.N) (r : Fin 256) (d : Fin 1024) :
    iblk m c 0 t (ix2 r d) = (m ((c : Thread nD τ).loc main_arg0) : Vec Ideal S65536x1024 .f32) (ix2 (rowOf t r) d) := by
  unfold rowOf
  blk_ext [iblk, V, idx t]

theorem read_a (c : Dev nD) (t : Fin cfg0.N) (r : Fin 256) (k : Fin 512) :
    iblk m c 1 t (ix2 r k) = (m ((c : Thread nD τ).loc main_arg1) : Vec Ideal S65536x512 .bf16) (ix2 (rowOf t r) k) := by
  unfold rowOf
  blk_ext [iblk, V, idx t]

theorem read_b (c : Dev nD) (t : Fin cfg0.N) (r : Fin 256) (k : Fin 512) :
    iblk m c 2 t (ix2 r k) = (m ((c : Thread nD τ).loc main_arg2) : Vec Ideal S65536x512 .bf16) (ix2 (rowOf t r) k) := by
  unfold rowOf
  blk_ext [iblk, V, idx t]

theorem read_w (c : Dev nD) (t : Fin cfg0.N) (k d : Fin 1024) :
    iblk m c 3 t (ix2 k d) = (m ((c : Thread nD τ).loc main_arg3) : Vec Ideal S1x1024x1024 .f32) (ix3 0 k d) := by
  have e : iblk m c 3 t (ix2 k d) = V m c main_v1 (ix2 k d) := by blk_ext [iblk, idx t]
  rw [e]
  entry_read
  pointwise

theorem read_g (c : Dev nD) (t : Fin cfg0.N) (k : Fin 1024) :
    iblk m c 4 t (ix2 0 k) = (m ((c : Thread nD τ).loc main_arg4) : Vec Ideal S1x1024 .f32) (ix2 0 k) := by
  have e : iblk m c 4 t (ix2 0 k) = V m c main_v3 (ix2 0 k) := by blk_ext [iblk, idx t]
  rw [e]
  entry_read
  pointwise

theorem read_gu (c : Dev nD) (t : Fin cfg0.N) (k : Fin 1024) (j : Fin 5632) :
    iblk m c 5 t (ix2 k j) = (m ((c : Thread nD τ).loc main_arg5) : Vec Ideal S1x1024x5632 .f32) (ix3 0 k j) := by
  have e : iblk m c 5 t (ix2 k j) = V m c main_v5 (ix2 k j) := by blk_ext [iblk, idx t]
  rw [e]
  entry_read
  pointwise

theorem read_d (c : Dev nD) (t : Fin cfg0.N) (j : Fin 2816) (d : Fin 1024) :
    iblk m c 6 t (ix2 j d) = (m ((c : Thread nD τ).loc main_arg6) : Vec Ideal S1x2816x1024 .f32) (ix3 0 j d) := by
  have e : iblk m c 6 t (ix2 j d) = V m c main_v7 (ix2 j d) := by blk_ext [iblk, idx t]
  rw [e]
  entry_read
  pointwise

theorem read_gf (c : Dev nD) (t : Fin cfg0.N) (k : Fin 1024) :
    iblk m c 7 t (ix2 0 k) = (m ((c : Thread nD τ).loc main_arg7) : Vec Ideal S1024 .f32) (ix1 k) := by
  have e : iblk m c 7 t (ix2 0 k) = V m c main_v8 (ix2 0 k) := by blk_ext [iblk, idx t]
  rw [e]
  entry_read
  pointwise

end Cert.Out

end
-- ==== Proof.Out.Array.lean ====
/- The output call's result array: every entry, from the arrays it reads. -/
module

public import proofs.«01_k».proof.Proof.Out.Body
public import proofs.«01_k».proof.Proof.Out.Reads

@[expose] public section

set_option maxRecDepth 16384

noncomputable section

namespace Cert.Out

open Idealize.ShloMosaic Idealize.ShloMosaic.TcCoe Idealize.SL.Sem
open Idealize.ShloMosaic.Pipeline (Dat)
open Cert.Kernel3Ideal Cert.Kernel3Ideal.Gen Cert.Ffn

variable (m : (ℓ : Loc nD τ sig) → Buf (Elt Ideal) ℓ)

/-- The result array. -/
def result (h : Vec Ideal S65536x1024 .f32) (a b : Vec Ideal S65536x512 .bf16) (w : Vec Ideal S1x1024x1024 .f32) (g : Vec Ideal S1x1024 .f32)
    (gu : Vec Ideal S1x1024x5632 .f32) (dn : Vec Ideal S1x2816x1024 .f32) (gf : Vec Ideal S1024 .f32) : Vec Ideal S65536x1024 .f32 := fun i =>
  outRow (fun k => h (ix2 (i 0) k)) (fun k => a (ix2 (i 0) k)) (fun k => b (ix2 (i 0) k)) (fun k d => w (ix3 0 k d))
    (fun k => g (ix2 0 k)) (fun k j => gu (ix3 0 k j)) (fun j d => dn (ix3 0 j d)) (fun k => gf (ix1 k)) (i 1)

/-- What the body writes at point `t`, from the arrays. -/
theorem written (c : Dev nD) (t : Fin cfg0.N) (r : Fin 256) (d : Fin 1024) :
    outRow (fun k => iblk m c 0 t (ix2 r k)) (fun k => iblk m c 1 t (ix2 r k)) (fun k => iblk m c 2 t (ix2 r k)) (fun k d => iblk m c 3 t (ix2 k d))
        (fun k => iblk m c 4 t (ix2 0 k)) (fun k j => iblk m c 5 t (ix2 k j)) (fun j d => iblk m c 6 t (ix2 j d)) (fun k => iblk m c 7 t (ix2 0 k)) d
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix2 (rowOf t r) d) := by
  simp only [read_h, read_a, read_b, read_w, read_g, read_gu, read_d, read_gf]
  rfl

theorem final (c : Dev nD) : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ ((cfg0.win 8).covers_of_indexMap_surj rfl (by decide) fun β => ?_) fun t _ y => ?_
  · have h0 : (β 0).val < 256 := (β 0).isLt
    have h1 : (β 1).val < 1 := (β 1).isLt
    refine ⟨grid0.coords (⟨(β 0).val, h0⟩ : Fin cfg0.N), fun a => ?_⟩
    refine (congrFun (idx ⟨(β 0).val, h0⟩).2.2.2.2.2.2.2.2 a).trans ?_
    match a with
    | 0 => rfl
    | 1 => show 0 = (β 1).val; omega
  · blk_simp
    rw [after0_8]
    unfold out0_8
    frame_out
    have hy : y = ix2 (⟨(y 0).val, (y 0).isLt⟩ : Fin 256) (⟨(y 1).val, (y 1).isLt⟩ : Fin 1024) := by blk_ext
    refine (congrArg _ hy).trans ((body _ _ _ _ _ _ _ _ _ _).trans ((written m c t _ _).trans ?_))
    have e : ((cfg0.win 8).blk t).view.emb y = ix2 (rowOf t ⟨(y 0).val, (y 0).isLt⟩) (⟨(y 1).val, (y 1).isLt⟩ : Fin 1024) := by
      unfold rowOf
      blk_ext [idx t]
    exact congrArg _ e.symm

end Cert.Out

end
-- ==== Proof.Out.Reference.lean ====
/- The reference of the output call, row by row. -/
module

public import proofs.«01_k».proof.Proof.Gen.Reference3Ideal.Read
public import proofs.«01_k».proof.Proof.Ffn.Rows
public import Idealize.ShloMosaic.Lib.Pointwise
public import Idealize.ShloMosaic.Lib.Pipeline.ValueKit

@[expose] public section

set_option maxRecDepth 16384

noncomputable section

namespace Cert.Out.Ref

open Cert.Reference3Ideal Cert.Reference3Ideal.Read Cert.Ffn Idealize.ShloMosaic

variable (h : (⟨S65536x1024, .f32⟩ : BufTy).Contents (Elt Ideal)) (a b : (⟨S65536x512, .bf16⟩ : BufTy).Contents (Elt Ideal))
  (w : (⟨S1x1024x1024, .f32⟩ : BufTy).Contents (Elt Ideal)) (g : (⟨S1x1024, .f32⟩ : BufTy).Contents (Elt Ideal))
  (gu : (⟨S1x1024x5632, .f32⟩ : BufTy).Contents (Elt Ideal)) (dn : (⟨S1x2816x1024, .f32⟩ : BufTy).Contents (Elt Ideal))
  (gf : (⟨S1024, .f32⟩ : BufTy).Contents (Elt Ideal))

theorem concat_split (r : Fin 65536) (k : Fin 1024) :
    val_main_v2 (F := Ideal) a b (ix2 r k)
      = if i : k.val < 512 then a (ix2 r (⟨k.val, i⟩ : Fin 512)) else b (ix2 r (⟨k.val - 512, by omega⟩ : Fin 512)) := by
  pointwise [val_main_v2, val_main_v0, val_main_v1]

theorem norm_ref (r : Fin 65536) (d : Fin 1024) :
    val_main_v19 (F := Ideal) h a b w g (ix2 r d)
      = norm (fun k => val_main_v5 (F := Ideal) h a b w (ix2 r k)) (fun k => g (ix2 0 k)) d := by
  rw [val_main_v19_apply, val_main_v16_apply, val_main_v15_apply, val_main_v14_apply, val_main_v13_apply, val_main_v11_apply, val_main_v9_apply,
    val_main_v8_apply, val_main_v10_apply, val_main_v12_apply, val_main_v18_apply, val_main_v17_apply, val_main_v6_apply, val_main_cst_apply,
    val_main_cst_0_apply, val_main_cst_1_apply]
  simp only [val_main_v7_apply]
  generalize val_main_v5 (F := Ideal) h a b w = y
  have e (k : Fin 1024) : idx_main_v8 (idx_main_v9 (idx_main_v15 (ix2 r d))) k = ix2 r k := by blk_ext
  have eg : idx_main_v6 (idx_main_v17 (idx_main_v18 (ix2 r d))) = ix2 0 d := by blk_ext
  simp only [e, eg]
  show (y (ix2 r d) : EReal) * Ideal.rsqrt (Ideal.div (Ideal.ofBits .f32 0x00000000#32 + ∑ k, (y (ix2 r k) : EReal) * y (ix2 r k)) _ + _) * g (ix2 0 d) = _
  rw [zero_bits, zero_add]
  rfl

theorem mixed_ref (r : Fin 65536) (d : Fin 1024) :
    val_main_v5 (F := Ideal) h a b w (ix2 r d)
      = mixed (fun k => h (ix2 r k)) (fun k => a (ix2 r k)) (fun k => b (ix2 r k)) (fun k d => w (ix3 0 k d)) d := by
  rw [val_main_v5_apply, val_main_v4_apply]
  have e (k : Fin 1024) : (val_main_v2 (F := Ideal) a b (lidx_main_v4 (ix2 r d) k) : EReal) * val_main_v3 (F := Ideal) w (ridx_main_v4 (ix2 r d) k)
      = (if i : k.val < 512 then (a (ix2 r (⟨k.val, i⟩ : Fin 512)) : EReal) else b (ix2 r (⟨k.val - 512, by omega⟩ : Fin 512))) * w (ix3 0 k d) := by
    have e1 : lidx_main_v4 (ix2 r d) k = ix2 r k := by blk_ext
    have e2 : idx_main_v3 (ridx_main_v4 (ix2 r d) k) = ix3 0 k d := by blk_ext
    rw [val_main_v3_apply, e1, e2, concat_split]
  refine (congrArg ((h (ix2 r d) : EReal) + ·) ((Finset.sum_congr rfl fun k _ => e k).trans (sum_halves 512 512 1024 rfl _))).trans ?_
  unfold mixed
  rw [add_assoc]
  refine congrArg₂ (fun x y : EReal => (h (ix2 r d) : EReal) + (x + y)) (Finset.sum_congr rfl fun k _ => ?_) (Finset.sum_congr rfl fun k _ => ?_)
  · rw [dif_pos k.isLt]
  · rw [dif_neg (by show ¬ 512 + k.val < 512; omega)]
    simp only [Nat.add_sub_cancel_left]

theorem gate_ref (r : Fin 65536) (j : Fin 5632) :
    val_main_v22 (F := Ideal) h a b w g gu (ix2 r j)
      = ∑ k : Fin 1024, (val_main_v19 (F := Ideal) h a b w g (ix2 r k) : EReal) * gu (ix3 0 k j) := by
  rw [val_main_v22_apply]
  refine Finset.sum_congr rfl fun k _ => ?_
  have e1 : lidx_main_v22 (ix2 r j) k = ix2 r k := by blk_ext
  have e2 : idx_main_v20 (ridx_main_v22 (ix2 r j) k) = ix3 0 k j := by blk_ext
  rw [val_main_v20_apply, e1, e2]

theorem unit_ref (r : Fin 65536) (j : Fin 2816) :
    val_main_v26 (F := Ideal) h a b w g gu (ix2 r j)
      = unit (fun k => val_main_v19 (F := Ideal) h a b w g (ix2 r k)) (fun k j => gu (ix3 0 k j)) j := by
  rw [val_main_v26_apply, val_main_v25_apply, val_main_call0_v5_apply, val_main_call0_v4_apply, val_main_call0_v3_apply, val_main_call0_v2_apply,
    val_main_call0_v1_apply, val_main_call0_v0_apply, val_main_v23_apply, val_main_v24_apply, val_main_call0_cst_apply, val_main_call0_cst_0_apply]
  have e1 : idx_main_v23 (ix2 r j) = ix2 r (⟨j.val, by omega⟩ : Fin 5632) := by blk_ext
  have e2 : idx_main_v24 (ix2 r j) = ix2 r (⟨2816 + j.val, by omega⟩ : Fin 5632) := by blk_ext
  rw [e1, e2, gate_ref, gate_ref]
  exact congrArg (fun x : EReal => _ * x * _) (logistic_eq _)

theorem half_ref (r : Fin 65536) (d : Fin 1024) :
    val_main_v30 (F := Ideal) h a b w g gu dn (ix2 r d)
      = half (fun k => val_main_v5 (F := Ideal) h a b w (ix2 r k)) (fun k => g (ix2 0 k)) (fun k j => gu (ix3 0 k j)) (fun j d => dn (ix3 0 j d)) d := by
  rw [val_main_v30_apply, val_main_v29_apply, val_main_v28_apply, val_main_v27_apply, val_main_cst_2_apply]
  refine congrArg (fun x : EReal => (_ : EReal) + (_ : EReal) * x) (Finset.sum_congr rfl fun j _ => ?_)
  have e1 : lidx_main_v27 (ix2 r d) j = ix2 r j := by blk_ext
  have e2 : idx_main_v21 (ridx_main_v27 (ix2 r d) j) = ix3 0 j d := by blk_ext
  rw [val_main_v21_apply, e1, e2, unit_ref]
  simp only [norm_ref]

theorem out_ref (r : Fin 65536) (d : Fin 1024) :
    val_main_v43 (F := Ideal) h a b w g gu dn gf (ix2 r d)
      = norm (fun k => val_main_v30 (F := Ideal) h a b w g gu dn (ix2 r k)) (fun k => gf (ix1 k)) d := by
  rw [val_main_v43_apply, val_main_v40_apply, val_main_v39_apply, val_main_v38_apply, val_main_v37_apply, val_main_v35_apply, val_main_v33_apply,
    val_main_v32_apply, val_main_v34_apply, val_main_v36_apply, val_main_v42_apply, val_main_v41_apply, val_main_cst_3_apply,
    val_main_cst_4_apply, val_main_cst_5_apply]
  simp only [val_main_v31_apply]
  generalize val_main_v30 (F := Ideal) h a b w g gu dn = y
  have e (k : Fin 1024) : idx_main_v32 (idx_main_v33 (idx_main_v39 (ix2 r d))) k = ix2 r k := by blk_ext
  have eg : idx_main_v41 (idx_main_v42 (ix2 r d)) = ix1 d := by blk_ext
  simp only [e, eg]
  show (y (ix2 r d) : EReal) * Ideal.rsqrt (Ideal.div (Ideal.ofBits .f32 0x00000000#32 + ∑ k, (y (ix2 r k) : EReal) * y (ix2 r k)) _ + _) * gf (ix1 d) = _
  rw [zero_bits, zero_add]
  rfl

/-- The reference's result. -/
theorem result_ref (r : Fin 65536) (d : Fin 1024) :
    val_main_v43 (F := Ideal) h a b w g gu dn gf (ix2 r d)
      = norm (half (mixed (fun k => h (ix2 r k)) (fun k => a (ix2 r k)) (fun k => b (ix2 r k)) (fun k d => w (ix3 0 k d)))
          (fun k => g (ix2 0 k)) (fun k j => gu (ix3 0 k j)) (fun j d => dn (ix3 0 j d))) (fun k => gf (ix1 k)) d := by
  rw [out_ref]
  simp only [half_ref, mixed_ref]

end Cert.Out.Ref

end
-- ==== Proof.Out.Algebraic.lean ====
/- The output call's algebraic claim. -/
module

public import proofs.«01_k».proof.Defs
public import proofs.«01_k».proof.Proof.Out.Array
public import proofs.«01_k».proof.Proof.Out.Reference
public import proofs.«01_k».proof.Proof.Gen.Reference3Ideal.Run
public import Idealize.ShloMosaic.Adequacy
public import Idealize.ShloMosaic.Init

@[expose] public section

set_option maxRecDepth 16384

noncomputable section

namespace Cert.Out

open Idealize.ShloMosaic Idealize.ShloMosaic.TcCoe Idealize.SL.Sem

/-- The fused output call and the plain mixing, feed-forward and final norm end with the same result. -/
theorem algebraic : Cert.algebraic_Kernel3Ideal_Reference3Ideal := by
  pair_intro
  · run_from Cert.Kernel3Ideal.Value.run_blocks m g
  · run_from Cert.Reference3Ideal.Value.run m' g'
    refine (Cert.Reference3Ideal.Read.val_main_v43_eq m' c).trans ?_
    show Cert.Reference3Ideal.Read.val_main_v43 (F := Ideal) (m' (c.tc.loc Cert.Reference3Ideal.main_arg0))
      (m' (c.tc.loc Cert.Reference3Ideal.main_arg1)) (m' (c.tc.loc Cert.Reference3Ideal.main_arg2)) (m' (c.tc.loc Cert.Reference3Ideal.main_arg3))
      (m' (c.tc.loc Cert.Reference3Ideal.main_arg4)) (m' (c.tc.loc Cert.Reference3Ideal.main_arg5)) (m' (c.tc.loc Cert.Reference3Ideal.main_arg6))
      (m' (c.tc.loc Cert.Reference3Ideal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2, final m c]
    funext i
    have hi : i = ix2 (i 0) (i 1) := by blk_ext
    exact (congrArg _ hi).trans (Ref.result_ref _ _ _ _ _ _ _ _ (i 0) (i 1))

end Cert.Out

end
-- ==== Proof.Prompt.Reads.lean ====
/- The blocks the prompt batch's output call reads, at the places of the arrays they are cut from. -/
module

public import proofs.«01_k».proof.Proof.Gen.Kernel4Ideal.Value
public import Idealize.ShloMosaic.Lib.Pipeline.ValueKit
public import Idealize.ShloMosaic.Lib.Pipeline.Covers

@[expose] public section

set_option maxRecDepth 16384

noncomputable section

namespace Cert.Prompt

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

/-- Point `t` reads and writes the rows of block `t`, and the whole weights. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- Row `r` of block `t`. -/
abbrev rowOf (t : Fin cfg0.N) (r : Fin 256) : Fin 16384 := ⟨256 * t.val + r.val, by have : t.val < 64 := t.isLt; omega⟩

theorem read_h (c : Dev nD) (t : Fin cfg0.N) (r : Fin 256) (d : Fin 1024) :
    iblk m c 0 t (ix2 r d) = (m ((c : Thread nD τ).loc main_arg0) : Vec Ideal S16384x1024 .f32) (ix2 (rowOf t r) d) := by
  unfold rowOf
  blk_ext [iblk, V, idx t]

theorem read_a (c : Dev nD) (t : Fin cfg0.N) (r : Fin 256) (k : Fin 512) :
    iblk m c 1 t (ix2 r k) = (m ((c : Thread nD τ).loc main_arg1) : Vec Ideal S16384x512 .bf16) (ix2 (rowOf t r) k) := by
  unfold rowOf
  blk_ext [iblk, V, idx t]

theorem read_b (c : Dev nD) (t : Fin cfg0.N) (r : Fin 256) (k : Fin 512) :
    iblk m c 2 t (ix2 r k) = (m ((c : Thread nD τ).loc main_arg2) : Vec Ideal S16384x512 .bf16) (ix2 (rowOf t r) k) := by
  unfold rowOf
  blk_ext [iblk, V, idx t]

theorem read_w (c : Dev nD) (t : Fin cfg0.N) (k d : Fin 1024) :
    iblk m c 3 t (ix2 k d) = (m ((c : Thread nD τ).loc main_arg3) : Vec Ideal S1x1024x1024 .f32) (ix3 0 k d) := by
  have e : iblk m c 3 t (ix2 k d) = V m c main_v1 (ix2 k d) := by blk_ext [iblk, idx t]
  rw [e]
  entry_read
  pointwise

theorem read_g (c : Dev nD) (t : Fin cfg0.N) (k : Fin 1024) :
    iblk m c 4 t (ix2 0 k) = (m ((c : Thread nD τ).loc main_arg4) : Vec Ideal S1x1024 .f32) (ix2 0 k) := by
  have e : iblk m c 4 t (ix2 0 k) = V m c main_v3 (ix2 0 k) := by blk_ext [iblk, idx t]
  rw [e]
  entry_read
  pointwise

theorem read_gu (c : Dev nD) (t : Fin cfg0.N) (k : Fin 1024) (j : Fin 5632) :
    iblk m c 5 t (ix2 k j) = (m ((c : Thread nD τ).loc main_arg5) : Vec Ideal S1x1024x5632 .f32) (ix3 0 k j) := by
  have e : iblk m c 5 t (ix2 k j) = V m c main_v5 (ix2 k j) := by blk_ext [iblk, idx t]
  rw [e]
  entry_read
  pointwise

theorem read_d (c : Dev nD) (t : Fin cfg0.N) (j : Fin 2816) (d : Fin 1024) :
    iblk m c 6 t (ix2 j d) = (m ((c : Thread nD τ).loc main_arg6) : Vec Ideal S1x2816x1024 .f32) (ix3 0 j d) := by
  have e : iblk m c 6 t (ix2 j d) = V m c main_v7 (ix2 j d) := by blk_ext [iblk, idx t]
  rw [e]
  entry_read
  pointwise

theorem read_gf (c : Dev nD) (t : Fin cfg0.N) (k : Fin 1024) :
    iblk m c 7 t (ix2 0 k) = (m ((c : Thread nD τ).loc main_arg7) : Vec Ideal S1024 .f32) (ix1 k) := by
  have e : iblk m c 7 t (ix2 0 k) = V m c main_v8 (ix2 0 k) := by blk_ext [iblk, idx t]
  rw [e]
  entry_read
  pointwise

end Cert.Prompt

end
-- ==== Proof.Prompt.Array.lean ====
/- The prompt batch's result array: every entry, from the arrays it reads. -/
module

public import proofs.«01_k».proof.Proof.Out.Body
public import proofs.«01_k».proof.Proof.Prompt.Reads

@[expose] public section

set_option maxRecDepth 16384

noncomputable section

namespace Cert.Prompt

open Idealize.ShloMosaic Idealize.ShloMosaic.TcCoe Idealize.SL.Sem
open Idealize.ShloMosaic.Pipeline (Dat)
open Cert.Kernel4Ideal Cert.Kernel4Ideal.Gen Cert.Ffn
open Cert.Out (outRow body)

variable (m : (ℓ : Loc nD τ sig) → Buf (Elt Ideal) ℓ)

/-- The result array. -/
def result (h : Vec Ideal S16384x1024 .f32) (a b : Vec Ideal S16384x512 .bf16) (w : Vec Ideal S1x1024x1024 .f32) (g : Vec Ideal S1x1024 .f32)
    (gu : Vec Ideal S1x1024x5632 .f32) (dn : Vec Ideal S1x2816x1024 .f32) (gf : Vec Ideal S1024 .f32) : Vec Ideal S16384x1024 .f32 := fun i =>
  outRow (fun k => h (ix2 (i 0) k)) (fun k => a (ix2 (i 0) k)) (fun k => b (ix2 (i 0) k)) (fun k d => w (ix3 0 k d))
    (fun k => g (ix2 0 k)) (fun k j => gu (ix3 0 k j)) (fun j d => dn (ix3 0 j d)) (fun k => gf (ix1 k)) (i 1)

/-- What the body writes at point `t`, from the arrays. -/
theorem written (c : Dev nD) (t : Fin cfg0.N) (r : Fin 256) (d : Fin 1024) :
    outRow (fun k => iblk m c 0 t (ix2 r k)) (fun k => iblk m c 1 t (ix2 r k)) (fun k => iblk m c 2 t (ix2 r k)) (fun k d => iblk m c 3 t (ix2 k d))
        (fun k => iblk m c 4 t (ix2 0 k)) (fun k j => iblk m c 5 t (ix2 k j)) (fun j d => iblk m c 6 t (ix2 j d)) (fun k => iblk m c 7 t (ix2 0 k)) d
      = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix2 (rowOf t r) d) := by
  simp only [read_h, read_a, read_b, read_w, read_g, read_gu, read_d, read_gf]
  rfl

theorem final (c : Dev nD) : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ ((cfg0.win 8).covers_of_indexMap_surj rfl (by decide) fun β => ?_) fun t _ y => ?_
  · have h0 : (β 0).val < 64 := (β 0).isLt
    have h1 : (β 1).val < 1 := (β 1).isLt
    refine ⟨grid0.coords (⟨(β 0).val, h0⟩ : Fin cfg0.N), fun a => ?_⟩
    refine (congrFun (idx ⟨(β 0).val, h0⟩).2.2.2.2.2.2.2.2 a).trans ?_
    match a with
    | 0 => rfl
    | 1 => show 0 = (β 1).val; omega
  · blk_simp
    rw [after0_8]
    unfold out0_8
    frame_out
    have hy : y = ix2 (⟨(y 0).val, (y 0).isLt⟩ : Fin 256) (⟨(y 1).val, (y 1).isLt⟩ : Fin 1024) := by blk_ext
    refine (congrArg _ hy).trans ((body _ _ _ _ _ _ _ _ _ _).trans ((written m c t _ _).trans ?_))
    have e : ((cfg0.win 8).blk t).view.emb y = ix2 (rowOf t ⟨(y 0).val, (y 0).isLt⟩) (⟨(y 1).val, (y 1).isLt⟩ : Fin 1024) := by
      unfold rowOf
      blk_ext [idx t]
    exact congrArg _ e.symm

end Cert.Prompt

end
-- ==== Proof.Prompt.Reference.lean ====
/- The reference of the prompt batch's output call, row by row. -/
module

public import proofs.«01_k».proof.Proof.Gen.Reference4Ideal.Read
public import proofs.«01_k».proof.Proof.Ffn.Rows
public import Idealize.ShloMosaic.Lib.Pointwise
public import Idealize.ShloMosaic.Lib.Pipeline.ValueKit

@[expose] public section

set_option maxRecDepth 16384

noncomputable section

namespace Cert.Prompt.Ref

open Cert.Reference4Ideal Cert.Reference4Ideal.Read Cert.Ffn Idealize.ShloMosaic

variable (h : (⟨S16384x1024, .f32⟩ : BufTy).Contents (Elt Ideal)) (a b : (⟨S16384x512, .bf16⟩ : BufTy).Contents (Elt Ideal))
  (w : (⟨S1x1024x1024, .f32⟩ : BufTy).Contents (Elt Ideal)) (g : (⟨S1x1024, .f32⟩ : BufTy).Contents (Elt Ideal))
  (gu : (⟨S1x1024x5632, .f32⟩ : BufTy).Contents (Elt Ideal)) (dn : (⟨S1x2816x1024, .f32⟩ : BufTy).Contents (Elt Ideal))
  (gf : (⟨S1024, .f32⟩ : BufTy).Contents (Elt Ideal))

theorem concat_split (r : Fin 16384) (k : Fin 1024) :
    val_main_v2 (F := Ideal) a b (ix2 r k)
      = if i : k.val < 512 then a (ix2 r (⟨k.val, i⟩ : Fin 512)) else b (ix2 r (⟨k.val - 512, by omega⟩ : Fin 512)) := by
  pointwise [val_main_v2, val_main_v0, val_main_v1]

theorem norm_ref (r : Fin 16384) (d : Fin 1024) :
    val_main_v19 (F := Ideal) h a b w g (ix2 r d)
      = norm (fun k => val_main_v5 (F := Ideal) h a b w (ix2 r k)) (fun k => g (ix2 0 k)) d := by
  rw [val_main_v19_apply, val_main_v16_apply, val_main_v15_apply, val_main_v14_apply, val_main_v13_apply, val_main_v11_apply, val_main_v9_apply,
    val_main_v8_apply, val_main_v10_apply, val_main_v12_apply, val_main_v18_apply, val_main_v17_apply, val_main_v6_apply, val_main_cst_apply,
    val_main_cst_0_apply, val_main_cst_1_apply]
  simp only [val_main_v7_apply]
  generalize val_main_v5 (F := Ideal) h a b w = y
  have e (k : Fin 1024) : idx_main_v8 (idx_main_v9 (idx_main_v15 (ix2 r d))) k = ix2 r k := by blk_ext
  have eg : idx_main_v6 (idx_main_v17 (idx_main_v18 (ix2 r d))) = ix2 0 d := by blk_ext
  simp only [e, eg]
  show (y (ix2 r d) : EReal) * Ideal.rsqrt (Ideal.div (Ideal.ofBits .f32 0x00000000#32 + ∑ k, (y (ix2 r k) : EReal) * y (ix2 r k)) _ + _) * g (ix2 0 d) = _
  rw [zero_bits, zero_add]
  rfl

theorem mixed_ref (r : Fin 16384) (d : Fin 1024) :
    val_main_v5 (F := Ideal) h a b w (ix2 r d)
      = mixed (fun k => h (ix2 r k)) (fun k => a (ix2 r k)) (fun k => b (ix2 r k)) (fun k d => w (ix3 0 k d)) d := by
  rw [val_main_v5_apply, val_main_v4_apply]
  have e (k : Fin 1024) : (val_main_v2 (F := Ideal) a b (lidx_main_v4 (ix2 r d) k) : EReal) * val_main_v3 (F := Ideal) w (ridx_main_v4 (ix2 r d) k)
      = (if i : k.val < 512 then (a (ix2 r (⟨k.val, i⟩ : Fin 512)) : EReal) else b (ix2 r (⟨k.val - 512, by omega⟩ : Fin 512))) * w (ix3 0 k d) := by
    have e1 : lidx_main_v4 (ix2 r d) k = ix2 r k := by blk_ext
    have e2 : idx_main_v3 (ridx_main_v4 (ix2 r d) k) = ix3 0 k d := by blk_ext
    rw [val_main_v3_apply, e1, e2, concat_split]
  refine (congrArg ((h (ix2 r d) : EReal) + ·) ((Finset.sum_congr rfl fun k _ => e k).trans (sum_halves 512 512 1024 rfl _))).trans ?_
  unfold mixed
  rw [add_assoc]
  refine congrArg₂ (fun x y : EReal => (h (ix2 r d) : EReal) + (x + y)) (Finset.sum_congr rfl fun k _ => ?_) (Finset.sum_congr rfl fun k _ => ?_)
  · rw [dif_pos k.isLt]
  · rw [dif_neg (by show ¬ 512 + k.val < 512; omega)]
    simp only [Nat.add_sub_cancel_left]

theorem gate_ref (r : Fin 16384) (j : Fin 5632) :
    val_main_v22 (F := Ideal) h a b w g gu (ix2 r j)
      = ∑ k : Fin 1024, (val_main_v19 (F := Ideal) h a b w g (ix2 r k) : EReal) * gu (ix3 0 k j) := by
  rw [val_main_v22_apply]
  refine Finset.sum_congr rfl fun k _ => ?_
  have e1 : lidx_main_v22 (ix2 r j) k = ix2 r k := by blk_ext
  have e2 : idx_main_v20 (ridx_main_v22 (ix2 r j) k) = ix3 0 k j := by blk_ext
  rw [val_main_v20_apply, e1, e2]

theorem unit_ref (r : Fin 16384) (j : Fin 2816) :
    val_main_v26 (F := Ideal) h a b w g gu (ix2 r j)
      = unit (fun k => val_main_v19 (F := Ideal) h a b w g (ix2 r k)) (fun k j => gu (ix3 0 k j)) j := by
  rw [val_main_v26_apply, val_main_v25_apply, val_main_call0_v5_apply, val_main_call0_v4_apply, val_main_call0_v3_apply, val_main_call0_v2_apply,
    val_main_call0_v1_apply, val_main_call0_v0_apply, val_main_v23_apply, val_main_v24_apply, val_main_call0_cst_apply, val_main_call0_cst_0_apply]
  have e1 : idx_main_v23 (ix2 r j) = ix2 r (⟨j.val, by omega⟩ : Fin 5632) := by blk_ext
  have e2 : idx_main_v24 (ix2 r j) = ix2 r (⟨2816 + j.val, by omega⟩ : Fin 5632) := by blk_ext
  rw [e1, e2, gate_ref, gate_ref]
  exact congrArg (fun x : EReal => _ * x * _) (logistic_eq _)

theorem half_ref (r : Fin 16384) (d : Fin 1024) :
    val_main_v30 (F := Ideal) h a b w g gu dn (ix2 r d)
      = half (fun k => val_main_v5 (F := Ideal) h a b w (ix2 r k)) (fun k => g (ix2 0 k)) (fun k j => gu (ix3 0 k j)) (fun j d => dn (ix3 0 j d)) d := by
  rw [val_main_v30_apply, val_main_v29_apply, val_main_v28_apply, val_main_v27_apply, val_main_cst_2_apply]
  refine congrArg (fun x : EReal => (_ : EReal) + (_ : EReal) * x) (Finset.sum_congr rfl fun j _ => ?_)
  have e1 : lidx_main_v27 (ix2 r d) j = ix2 r j := by blk_ext
  have e2 : idx_main_v21 (ridx_main_v27 (ix2 r d) j) = ix3 0 j d := by blk_ext
  rw [val_main_v21_apply, e1, e2, unit_ref]
  simp only [norm_ref]

theorem out_ref (r : Fin 16384) (d : Fin 1024) :
    val_main_v43 (F := Ideal) h a b w g gu dn gf (ix2 r d)
      = norm (fun k => val_main_v30 (F := Ideal) h a b w g gu dn (ix2 r k)) (fun k => gf (ix1 k)) d := by
  rw [val_main_v43_apply, val_main_v40_apply, val_main_v39_apply, val_main_v38_apply, val_main_v37_apply, val_main_v35_apply, val_main_v33_apply,
    val_main_v32_apply, val_main_v34_apply, val_main_v36_apply, val_main_v42_apply, val_main_v41_apply, val_main_cst_3_apply,
    val_main_cst_4_apply, val_main_cst_5_apply]
  simp only [val_main_v31_apply]
  generalize val_main_v30 (F := Ideal) h a b w g gu dn = y
  have e (k : Fin 1024) : idx_main_v32 (idx_main_v33 (idx_main_v39 (ix2 r d))) k = ix2 r k := by blk_ext
  have eg : idx_main_v41 (idx_main_v42 (ix2 r d)) = ix1 d := by blk_ext
  simp only [e, eg]
  show (y (ix2 r d) : EReal) * Ideal.rsqrt (Ideal.div (Ideal.ofBits .f32 0x00000000#32 + ∑ k, (y (ix2 r k) : EReal) * y (ix2 r k)) _ + _) * gf (ix1 d) = _
  rw [zero_bits, zero_add]
  rfl

/-- The reference's result. -/
theorem result_ref (r : Fin 16384) (d : Fin 1024) :
    val_main_v43 (F := Ideal) h a b w g gu dn gf (ix2 r d)
      = norm (half (mixed (fun k => h (ix2 r k)) (fun k => a (ix2 r k)) (fun k => b (ix2 r k)) (fun k d => w (ix3 0 k d)))
          (fun k => g (ix2 0 k)) (fun k j => gu (ix3 0 k j)) (fun j d => dn (ix3 0 j d))) (fun k => gf (ix1 k)) d := by
  rw [out_ref]
  simp only [half_ref, mixed_ref]

end Cert.Prompt.Ref

end
-- ==== Proof.Prompt.Algebraic.lean ====
/- The prompt batch's algebraic claim. -/
module

public import proofs.«01_k».proof.Defs
public import proofs.«01_k».proof.Proof.Prompt.Array
public import proofs.«01_k».proof.Proof.Prompt.Reference
public import proofs.«01_k».proof.Proof.Gen.Reference4Ideal.Run
public import Idealize.ShloMosaic.Adequacy
public import Idealize.ShloMosaic.Init

@[expose] public section

set_option maxRecDepth 16384

noncomputable section

namespace Cert.Prompt

open Idealize.ShloMosaic Idealize.ShloMosaic.TcCoe Idealize.SL.Sem

/-- The fused output call and the plain mixing, feed-forward and final norm end with the same result. -/
theorem algebraic : Cert.algebraic_Kernel4Ideal_Reference4Ideal := by
  pair_intro
  · run_from Cert.Kernel4Ideal.Value.run_blocks m g
  · run_from Cert.Reference4Ideal.Value.run m' g'
    refine (Cert.Reference4Ideal.Read.val_main_v43_eq m' c).trans ?_
    show Cert.Reference4Ideal.Read.val_main_v43 (F := Ideal) (m' (c.tc.loc Cert.Reference4Ideal.main_arg0))
      (m' (c.tc.loc Cert.Reference4Ideal.main_arg1)) (m' (c.tc.loc Cert.Reference4Ideal.main_arg2)) (m' (c.tc.loc Cert.Reference4Ideal.main_arg3))
      (m' (c.tc.loc Cert.Reference4Ideal.main_arg4)) (m' (c.tc.loc Cert.Reference4Ideal.main_arg5)) (m' (c.tc.loc Cert.Reference4Ideal.main_arg6))
      (m' (c.tc.loc Cert.Reference4Ideal.main_arg7)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2, final m c]
    funext i
    have hi : i = ix2 (i 0) (i 1) := by blk_ext
    exact (congrArg _ hi).trans (Ref.result_ref _ _ _ _ _ _ _ _ (i 0) (i 1))

end Cert.Prompt

end
-- ==== Proof.lean ====
/- The certificate: each program's frame, the rewrites kept, and the equality of each kernel with its reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Attn.Algebraic
public import proofs.«01_k».proof.Proof.Proj.Algebraic
public import proofs.«01_k».proof.Proof.Out.Algebraic
public import proofs.«01_k».proof.Proof.Prompt.Algebraic
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent

@[expose] public section

noncomputable section

namespace Cert.Proof

open Idealize.ShloMosaic Idealize.SL.Sem

/-- The plain attention runs, leaves its arguments and ends with every counter at zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The plain feed-forward and projection runs, leaves its arguments and ends with every counter at zero. -/
theorem reference2_frame : Cert.quiescent_Reference2Ideal := fun m g _ =>
  (θ_run Cert.Reference2Ideal.defs _ _).mono (fun r h => ⟨fun c => (h c).2.2.2, sem_eq_zero_of_no_sems (by decide) r.2⟩)
    (Cert.Reference2Ideal.Value.run m g)

/-- The plain output half runs, leaves its arguments and ends with every counter at zero. -/
theorem reference3_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- The plain output half of the prompt batch runs, leaves its arguments and ends with every counter at zero. -/
theorem reference4_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_finite_scores.Gen.facts,
    fun m ρ _ => Cert.Kernel.Gen.frame m ρ,
    fun m ρ _ => Cert.KernelIdeal.Gen.frame m ρ,
    fun m ρ _ => Cert.KernelIdeal.Gen.frame m ρ,
    reference_frame,
    fun m g _ => reference_frame m g trivial,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    IdealRules.named_const.statement Cert.KernelIdeal.κ "mask" .f32 0xF149F2CA#32 ⊥ rfl,
    Cert.Attn.algebraic,
    trivial,
    Cert.Proj.algebraic,
    trivial,
    Cert.Out.algebraic,
    trivial,
    Cert.Prompt.algebraic⟩

end Cert.Proof

end
